-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_and_router_finite_KernelIdeal [hPre_tokens_and_router_finite_KernelIdeal : Cert.Pre_tokens_and_router_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_router_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_router_finite_ReferenceIdeal [hPre_tokens_and_router_finite_ReferenceIdeal : Cert.Pre_tokens_and_router_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_router_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tokens_and_router_finite_KernelIdeal [hKernelIdeal : Cert.KernelIdeal.Facts] [hPre_tokens_and_router_finite_KernelIdeal : Cert.Pre_tokens_and_router_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_router_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens_and_router_finite_ReferenceIdeal [hReferenceIdeal : Cert.ReferenceIdeal.Facts] [hPre_tokens_and_router_finite_ReferenceIdeal : Cert.Pre_tokens_and_router_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_router_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tokens_and_router_finite_KernelIdeal [hKernelIdeal : Cert.KernelIdeal.Facts] [hReferenceIdeal : Cert.ReferenceIdeal.Facts] [hPre_tokens_and_router_finite_KernelIdeal : Cert.Pre_tokens_and_router_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_router_finite_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![4096, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens_and_router_finite_KernelIdeal : Cert.Pre_tokens_and_router_finite_KernelIdeal.Facts) (hPre_tokens_and_router_finite_ReferenceIdeal : Cert.Pre_tokens_and_router_finite_ReferenceIdeal.Facts),
    quiescent_Kernel (hKernel := hKernel)
    ∧ quiescent_KernelIdeal (hKernelIdeal := hKernelIdeal)
    ∧ quiescent_KernelIdeal_pre_tokens_and_router_finite_KernelIdeal (hKernelIdeal := hKernelIdeal) (hPre_tokens_and_router_finite_KernelIdeal := hPre_tokens_and_router_finite_KernelIdeal)
    ∧ quiescent_ReferenceIdeal (hReferenceIdeal := hReferenceIdeal)
    ∧ quiescent_ReferenceIdeal_pre_tokens_and_router_finite_ReferenceIdeal (hReferenceIdeal := hReferenceIdeal) (hPre_tokens_and_router_finite_ReferenceIdeal := hPre_tokens_and_router_finite_ReferenceIdeal)
    ∧ preserves_Kernel_KernelIdeal
    ∧ algebraic_KernelIdeal_ReferenceIdeal_pre_tokens_and_router_finite_KernelIdeal (hKernelIdeal := hKernelIdeal) (hReferenceIdeal := hReferenceIdeal) (hPre_tokens_and_router_finite_KernelIdeal := hPre_tokens_and_router_finite_KernelIdeal)
-- ==== Pre_tokens_and_router_finite_KernelIdeal.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S512x256 .bf16) (main_arg1 : FVec F S256x32 .bf16) (main_arg2 : IVec S512x1 32) (main_arg3 : FVec F S4x256x512 .bf16) (main_arg4 : FVec F S256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x32 .bf16 := Host.absf main_arg1
  let main_cst_0 : FVec F S_ .bf16 := constant S_ .bf16 0x7F80#16
  let main_v5 : FVec F S256x32 .bf16 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  main_v8
-- ==== Pre_tokens_and_router_finite_ReferenceIdeal.lean ====
abbrev S4096x256 : Shape := ⟨2, ![4096, 256]⟩
abbrev S256x32 : Shape := ⟨2, ![256, 32]⟩
abbrev S4096x1 : Shape := ⟨2, ![4096, 1]⟩
abbrev S32x256x512 : Shape := ⟨3, ![32, 256, 512]⟩
abbrev S256x512 : Shape := ⟨2, ![256, 512]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S4096x256 .bf16) (main_arg1 : FVec F S256x32 .bf16) (main_arg2 : IVec S4096x1 32) (main_arg3 : FVec F S32x256x512 .bf16) (main_arg4 : FVec F S256x512 .bf16) : IVec S_ 1 :=
  let main_v0 : FVec F S4096x256 .bf16 := Host.absf main_arg0
  let main_cst : FVec F S_ .bf16 := constant S_ .bf16 0x7F80#16
  let main_v1 : FVec F S4096x256 .bf16 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x32 .bf16 := Host.absf main_arg1
  let main_cst_0 : FVec F S_ .bf16 := constant S_ .bf16 0x7F80#16
  let main_v5 : FVec F S256x32 .bf16 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  main_v8
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S4x4x256x512 : Shape := ⟨4, ![4, 4, 256, 512]⟩
abbrev S2x256x512 : Shape := ⟨3, ![2, 256, 512]⟩
abbrev S9 : Shape := ⟨1, ![9]⟩
abbrev S_ : Shape := ⟨0, ![]⟩
abbrev S1 : Shape := ⟨1, ![1]⟩
abbrev S1x4x256x512 : Shape := ⟨4, ![1, 4, 256, 512]⟩
abbrev S512x32 : Shape := ⟨2, ![512, 32]⟩
abbrev S512 : Shape := ⟨1, ![512]⟩
abbrev S512x1024 : Shape := ⟨2, ![512, 1024]⟩
abbrev S1024x512 : Shape := ⟨2, ![1024, 512]⟩
abbrev S1x2x256x512 : Shape := ⟨4, ![1, 2, 256, 512]⟩

abbrev nBuf : Space → Nat
  | .hbm => 6
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x32, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S512x512, .f32⟩
  | .local _ .vmem, ⟨6, _⟩ => ⟨S4x4x256x512, .bf16⟩
  | .local _ .vmem, ⟨7, _⟩ => ⟨S4x4x256x512, .bf16⟩
  | .local _ .vmem, ⟨8, _⟩ => ⟨S2x256x512, .bf16⟩
  | .local _ .vmem, ⟨9, _⟩ => ⟨S4x256x512, .bf16⟩
  | .local _ .vmem, ⟨10, _⟩ => ⟨S2x256x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.subi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_17 : BitVec 32 := 1#32
  let v31 : BitVec 32 := Scalar.muli v19 c1_i32_17
  let v32 : BitVec 32 := Scalar.addi c0_i32_18 v31
  v32.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.addi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_20 : BitVec 32 := 1#32
  let v33 : BitVec 32 := Scalar.muli v13 c1_i32_20
  let v34 : BitVec 32 := Scalar.addi c0_i32_21 v33
  v34.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let c3_i32 : BitVec 32 := 3#32
  let v22 : BitVec 32 := Scalar.addi v7 c3_i32
  let c3_i32_11 : BitVec 32 := 3#32
  let v23 : BitVec 32 := Scalar.subi v7 c3_i32_11
  let v24 : BitVec 32 := Scalar.select v21 v22 v23
  let c16_i32_12 : BitVec 32 := 16#32
  let v25 : BitVec 32 := Scalar.addi v24 c16_i32_12
  let c8_i32_13 : BitVec 32 := 8#32
  let v26 : BitVec 32 := Scalar.remsi v25 c8_i32_13
  let c4_i32_14 : BitVec 32 := 4#32
  let v27 : BitVec 1 := Scalar.cmpi .slt v26 c4_i32_14
  let c11_i32_15 : BitVec 32 := 11#32
  let v28 : BitVec 32 := Scalar.subi c11_i32_15 v26
  let v29 : BitVec 32 := Scalar.select v27 v26 v28
  let c1_i32_23 : BitVec 32 := 1#32
  let v35 : BitVec 32 := Scalar.muli v29 c1_i32_23
  let v36 : BitVec 32 := Scalar.addi c0_i32_24 v35
  v36.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.addi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_29 : BitVec 32 := 1#32
  let v37 : BitVec 32 := Scalar.muli v13 c1_i32_29
  let v38 : BitVec 32 := Scalar.addi c0_i32_30 v37
  v38.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.subi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_37 : BitVec 32 := 1#32
  let v45 : BitVec 32 := Scalar.muli v19 c1_i32_37
  let v46 : BitVec 32 := Scalar.addi c0_i32_38 v45
  v46.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let c3_i32 : BitVec 32 := 3#32
  let v22 : BitVec 32 := Scalar.addi v7 c3_i32
  let c3_i32_11 : BitVec 32 := 3#32
  let v23 : BitVec 32 := Scalar.subi v7 c3_i32_11
  let v24 : BitVec 32 := Scalar.select v21 v22 v23
  let c16_i32_12 : BitVec 32 := 16#32
  let v25 : BitVec 32 := Scalar.addi v24 c16_i32_12
  let c8_i32_13 : BitVec 32 := 8#32
  let v26 : BitVec 32 := Scalar.remsi v25 c8_i32_13
  let c4_i32_14 : BitVec 32 := 4#32
  let v27 : BitVec 1 := Scalar.cmpi .slt v26 c4_i32_14
  let c11_i32_15 : BitVec 32 := 11#32
  let v28 : BitVec 32 := Scalar.subi c11_i32_15 v26
  let v29 : BitVec 32 := Scalar.select v27 v26 v28
  let c1_i32_43 : BitVec 32 := 1#32
  let v53 : BitVec 32 := Scalar.muli v29 c1_i32_43
  let v54 : BitVec 32 := Scalar.addi c0_i32_44 v53
  v54.toNat
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.addi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_110 : BitVec 32 := 1#32
  let v148 : BitVec 32 := Scalar.muli v13 c1_i32_110
  let v149 : BitVec 32 := Scalar.addi c0_i32_111 v148
  v149.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.subi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_122 : BitVec 32 := 1#32
  let v158 : BitVec 32 := Scalar.muli v19 c1_i32_122
  let v159 : BitVec 32 := Scalar.addi c0_i32_123 v158
  v159.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let v168 : BitVec 32 := Scalar.extui v21
  let c0_i32_130 : BitVec 32 := 0#32
  let v169 : BitVec 1 := Scalar.cmpi .ne v168 c0_i32_130
  v169

def k0_dev9 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let c3_i32 : BitVec 32 := 3#32
  let v22 : BitVec 32 := Scalar.addi v7 c3_i32
  let c3_i32_11 : BitVec 32 := 3#32
  let v23 : BitVec 32 := Scalar.subi v7 c3_i32_11
  let v24 : BitVec 32 := Scalar.select v21 v22 v23
  let c16_i32_12 : BitVec 32 := 16#32
  let v25 : BitVec 32 := Scalar.addi v24 c16_i32_12
  let c8_i32_13 : BitVec 32 := 8#32
  let v26 : BitVec 32 := Scalar.remsi v25 c8_i32_13
  let c4_i32_14 : BitVec 32 := 4#32
  let v27 : BitVec 1 := Scalar.cmpi .slt v26 c4_i32_14
  let c11_i32_15 : BitVec 32 := 11#32
  let v28 : BitVec 32 := Scalar.subi c11_i32_15 v26
  let v29 : BitVec 32 := Scalar.select v27 v26 v28
  let c1_i32_468 : BitVec 32 := 1#32
  let v651 : BitVec 32 := Scalar.muli v29 c1_i32_468
  let v652 : BitVec 32 := Scalar.addi c0_i32_469 v651
  v652.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let true_131 : BitVec 1 := 1#1
  let v170 : BitVec 1 := Scalar.xori v21 true_131
  let v171 : BitVec 32 := Scalar.extui v170
  let c0_i32_132 : BitVec 32 := 0#32
  let v172 : BitVec 1 := Scalar.cmpi .ne v171 c0_i32_132
  v172

def k0_dev10 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let c3_i32 : BitVec 32 := 3#32
  let v22 : BitVec 32 := Scalar.addi v7 c3_i32
  let c3_i32_11 : BitVec 32 := 3#32
  let v23 : BitVec 32 := Scalar.subi v7 c3_i32_11
  let v24 : BitVec 32 := Scalar.select v21 v22 v23
  let c16_i32_12 : BitVec 32 := 16#32
  let v25 : BitVec 32 := Scalar.addi v24 c16_i32_12
  let c8_i32_13 : BitVec 32 := 8#32
  let v26 : BitVec 32 := Scalar.remsi v25 c8_i32_13
  let c4_i32_14 : BitVec 32 := 4#32
  let v27 : BitVec 1 := Scalar.cmpi .slt v26 c4_i32_14
  let c11_i32_15 : BitVec 32 := 11#32
  let v28 : BitVec 32 := Scalar.subi c11_i32_15 v26
  let v29 : BitVec 32 := Scalar.select v27 v26 v28
  let c1_i32_468 : BitVec 32 := 1#32
  let v651 : BitVec 32 := Scalar.muli v29 c1_i32_468
  let v652 : BitVec 32 := Scalar.addi c0_i32_469 v651
  v652.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.addi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_255 : BitVec 32 := 1#32
  let v338 : BitVec 32 := Scalar.muli v13 c1_i32_255
  let v339 : BitVec 32 := Scalar.addi c0_i32_256 v338
  v339.toNat
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.subi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_266 : BitVec 32 := 1#32
  let v348 : BitVec 32 := Scalar.muli v19 c1_i32_266
  let v349 : BitVec 32 := Scalar.addi c0_i32_267 v348
  v349.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let v358 : BitVec 32 := Scalar.extui v21
  let c0_i32_274 : BitVec 32 := 0#32
  let v359 : BitVec 1 := Scalar.cmpi .ne v358 c0_i32_274
  v359

def k0_dev13 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let c3_i32 : BitVec 32 := 3#32
  let v22 : BitVec 32 := Scalar.addi v7 c3_i32
  let c3_i32_11 : BitVec 32 := 3#32
  let v23 : BitVec 32 := Scalar.subi v7 c3_i32_11
  let v24 : BitVec 32 := Scalar.select v21 v22 v23
  let c16_i32_12 : BitVec 32 := 16#32
  let v25 : BitVec 32 := Scalar.addi v24 c16_i32_12
  let c8_i32_13 : BitVec 32 := 8#32
  let v26 : BitVec 32 := Scalar.remsi v25 c8_i32_13
  let c4_i32_14 : BitVec 32 := 4#32
  let v27 : BitVec 1 := Scalar.cmpi .slt v26 c4_i32_14
  let c11_i32_15 : BitVec 32 := 11#32
  let v28 : BitVec 32 := Scalar.subi c11_i32_15 v26
  let v29 : BitVec 32 := Scalar.select v27 v26 v28
  let c1_i32_468 : BitVec 32 := 1#32
  let v651 : BitVec 32 := Scalar.muli v29 c1_i32_468
  let v652 : BitVec 32 := Scalar.addi c0_i32_469 v651
  v652.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let true_275 : BitVec 1 := 1#1
  let v360 : BitVec 1 := Scalar.xori v21 true_275
  let v361 : BitVec 32 := Scalar.extui v360
  let c0_i32_276 : BitVec 32 := 0#32
  let v362 : BitVec 1 := Scalar.cmpi .ne v361 c0_i32_276
  v362

def k0_dev14 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c2_i32 : BitVec 32 := 2#32
  let v20 : BitVec 32 := Scalar.remsi v7 c2_i32
  let c0_i32 : BitVec 32 := 0#32
  let v21 : BitVec 1 := Scalar.cmpi .eq v20 c0_i32
  let c3_i32 : BitVec 32 := 3#32
  let v22 : BitVec 32 := Scalar.addi v7 c3_i32
  let c3_i32_11 : BitVec 32 := 3#32
  let v23 : BitVec 32 := Scalar.subi v7 c3_i32_11
  let v24 : BitVec 32 := Scalar.select v21 v22 v23
  let c16_i32_12 : BitVec 32 := 16#32
  let v25 : BitVec 32 := Scalar.addi v24 c16_i32_12
  let c8_i32_13 : BitVec 32 := 8#32
  let v26 : BitVec 32 := Scalar.remsi v25 c8_i32_13
  let c4_i32_14 : BitVec 32 := 4#32
  let v27 : BitVec 1 := Scalar.cmpi .slt v26 c4_i32_14
  let c11_i32_15 : BitVec 32 := 11#32
  let v28 : BitVec 32 := Scalar.subi c11_i32_15 v26
  let v29 : BitVec 32 := Scalar.select v27 v26 v28
  let c1_i32_468 : BitVec 32 := 1#32
  let v651 : BitVec 32 := Scalar.muli v29 c1_i32_468
  let v652 : BitVec 32 := Scalar.addi c0_i32_469 v651
  v652.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x256 : Shape := ⟨2, ![4096, 256]⟩
abbrev S256x32 : Shape := ⟨2, ![256, 32]⟩
abbrev S4096x1 : Shape := ⟨2, ![4096, 1]⟩
abbrev S32x256x512 : Shape := ⟨3, ![32, 256, 512]⟩
abbrev S256x512 : Shape := ⟨2, ![256, 512]⟩
abbrev S4096x32 : Shape := ⟨2, ![4096, 32]⟩
abbrev S_ : Shape := ⟨0, ![]⟩
abbrev S4096 : Shape := ⟨1, ![4096]⟩
abbrev S4096x512 : Shape := ⟨2, ![4096, 512]⟩
abbrev S4096x2 : Shape := ⟨2, ![4096, 2]⟩
abbrev S4096x256x512 : Shape := ⟨3, ![4096, 256, 512]⟩

abbrev nBuf : Space → Nat
  | .hbm => 75
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x32, .bf16⟩
  | .hbm, ⟨2, _⟩ => ⟨S4096x1, .i32⟩
  | .hbm, ⟨3, _⟩ => ⟨S32x256x512, .bf16⟩
  | .hbm, ⟨4, _⟩ => ⟨S256x512, .bf16⟩
  | .hbm, ⟨5, _⟩ => ⟨S4096x256, .f32⟩
  | .hbm, ⟨6, _⟩ => ⟨S256x32, .f32⟩
  | .hbm, ⟨7, _⟩ => ⟨S4096x32, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x32, .f32⟩
  | .hbm, ⟨12, _⟩ => ⟨S4096x32, .f32⟩
  | .hbm, ⟨13, _⟩ => ⟨S4096x32, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x32, .f32⟩
  | .hbm, ⟨18, _⟩ => ⟨S4096x32, .f32⟩
  | .hbm, ⟨19, _⟩ => ⟨S256x512, .f32⟩
  | .hbm, ⟨20, _⟩ => ⟨S4096x512, .f32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x1, .i32⟩
  | .hbm, ⟨54, _⟩ => ⟨S4096x2, .i32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S32x256x512, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x256x512, .f32⟩
  | .hbm, ⟨70, _⟩ => ⟨S4096x512, .f32⟩
  | .hbm, ⟨71, _⟩ => ⟨S4096x1, .f32⟩
  | .hbm, ⟨72, _⟩ => ⟨S4096x512, .f32⟩
  | .hbm, ⟨73, _⟩ => ⟨S4096x512, .f32⟩
  | .hbm, ⟨74, _⟩ => ⟨S4096x512, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Proof.Ideal.Common.lean ====
/-
The exchange of the expert weights between the eight devices, as a protocol: who sends to whom, what every buffer
holds once its transfer has landed, the semaphore cells with their one round of duties, and what each device owes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.IdealTalk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds of the exchange: duties are named by `Fin 3`. -/
abbrev UB : Type := URounds (GSem nD τ sig) (Fin 3)
/-- The pipeline's rounds and the exchange's side by side. -/
abbrev UU : Type := UR sig nD τ × UB

local notation "𝕄" => MT nD τ sig Unit (Elt F) ℕ UU ℕ

/-- Where the pipeline's rounds live. -/
abbrev EP : Emb (UR sig nD τ) (MT nD τ sig Unit (Elt F) ℕ UU ℕ) := embL
/-- Where the exchange's rounds live. -/
abbrev ER : Emb UB (MT nD τ sig Unit (Elt F) ℕ UU ℕ) := embR

/-! ## The devices around a device -/

/-- The ring position of a device number, and back: the map is its own inverse. -/
def lg (n : ℕ) : ℕ := if n % 8 < 4 then n % 8 else 11 - n % 8
/-- A ring position is below eight. -/
theorem lg_lt (n : ℕ) : lg n < 8 := by unfold lg; split <;> omega

set_option backward.proofsInPublic true in
/-- The next device around the ring. -/
def right (c : Dev nD) : Dev nD := ⟨lg (lg c.val + 1), lg_lt _⟩
set_option backward.proofsInPublic true in
/-- The device before around the ring. -/
def left (c : Dev nD) : Dev nD := ⟨lg (lg c.val + 7), lg_lt _⟩
/-- Whether the device's ring position is even. -/
def ev (c : Dev nD) : Bool := lg c.val % 2 == 0
set_option backward.proofsInPublic true in
/-- The device three positions on (from an even position) or three back (from an odd one). -/
def partner (c : Dev nD) : Dev nD := ⟨lg (lg c.val + if ev c then 3 else 5), lg_lt _⟩
/-- The device four positions away. -/
def opp (c : Dev nD) : Dev nD := if ev c then right (partner c) else left (partner c)
/-- The device three positions back (from an even position) or three on. -/
def far (c : Dev nD) : Dev nD := if ev c then right (right (partner c)) else left (left (partner c))

theorem left_right (c : Dev nD) : left (right c) = c := by revert c; decide
theorem right_left (c : Dev nD) : right (left c) = c := by revert c; decide
theorem partner_partner (c : Dev nD) : partner (partner c) = c := by revert c; decide
theorem ev_partner (c : Dev nD) : ev (partner c) = !ev c := by revert c; decide
theorem opp_partner (c : Dev nD) : opp (partner c) = if ev c then left c else right c := by revert c; decide
theorem far_partner (c : Dev nD) : far (partner c) = if ev c then left (left c) else right (right c) := by revert c; decide
theorem left_ne_right (c : Dev nD) : left c ≠ right c := by revert c; decide
theorem left_ne_partner (c : Dev nD) : left c ≠ partner c := by revert c; decide
theorem right_ne_partner (c : Dev nD) : right c ≠ partner c := by revert c; decide

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = partner c := by revert c; decide +kernel
theorem dev4_eq (c : Dev nD) : (⟨k0_dev4 c, k0_dev4_lt c⟩ : Dev nD) = right c := by revert c; decide +kernel
theorem dev5_eq (c : Dev nD) : (⟨k0_dev5 c, k0_dev5_lt c⟩ : Dev nD) = left c := by revert c; decide +kernel
theorem dev6_eq (c : Dev nD) : (⟨k0_dev6 c, k0_dev6_lt c⟩ : Dev nD) = partner c := by revert c; decide +kernel
theorem dev7_eq (c : Dev nD) : (⟨k0_dev7 c, k0_dev7_lt c⟩ : Dev nD) = right c := by revert c; decide +kernel
theorem dev8_eq (c : Dev nD) : (⟨k0_dev8 c, k0_dev8_lt c⟩ : Dev nD) = left c := by revert c; decide +kernel
theorem dev9_eq (c : Dev nD) (h : k0_cond1 c = 1#1) : (⟨k0_dev9 c, k0_dev9_lt c h⟩ : Dev nD) = partner c := by revert c; decide +kernel
theorem dev10_eq (c : Dev nD) (h : k0_cond2 c = 1#1) : (⟨k0_dev10 c, k0_dev10_lt c h⟩ : Dev nD) = partner c := by revert c; decide +kernel
theorem dev11_eq (c : Dev nD) : (⟨k0_dev11 c, k0_dev11_lt c⟩ : Dev nD) = right c := by revert c; decide +kernel
theorem dev12_eq (c : Dev nD) : (⟨k0_dev12 c, k0_dev12_lt c⟩ : Dev nD) = left c := by revert c; decide +kernel
theorem dev13_eq (c : Dev nD) (h : k0_cond3 c = 1#1) : (⟨k0_dev13 c, k0_dev13_lt c h⟩ : Dev nD) = partner c := by revert c; decide +kernel
theorem dev14_eq (c : Dev nD) (h : k0_cond4 c = 1#1) : (⟨k0_dev14 c, k0_dev14_lt c h⟩ : Dev nD) = partner c := by revert c; decide +kernel

theorem cond1_iff (c : Dev nD) : k0_cond1 c = 1#1 ↔ ev c = true := by revert c; decide +kernel
theorem cond2_iff (c : Dev nD) : k0_cond2 c = 1#1 ↔ ev c = false := by revert c; decide +kernel
theorem cond3_iff (c : Dev nD) : k0_cond3 c = 1#1 ↔ ev c = true := by revert c; decide +kernel
theorem cond4_iff (c : Dev nD) : k0_cond4 c = 1#1 ↔ ev c = false := by revert c; decide +kernel

/-! ## The buffers and their parts -/

abbrev xM : Memref sig .tc .vmem S512x256 .bf16 := Memref.whole cc0_stg0_0
abbrev rwM : Memref sig .tc .vmem S256x32 .bf16 := Memref.whole cc0_stg1_0
abbrev idM : Memref sig .tc .vmem S512x1 .i32 := Memref.whole cc0_stg2_0
abbrev ewM : Memref sig .tc .vmem S4x256x512 .bf16 := Memref.whole cc0_stg3_0
abbrev swM : Memref sig .tc .vmem S256x512 .bf16 := Memref.whole cc0_stg4_0
abbrev oM : Memref sig .tc .vmem S512x512 .f32 := Memref.whole cc0_stg5_0
abbrev fwM : Memref sig .tc .vmem S4x4x256x512 .bf16 := Memref.whole cc0_scratch0
abbrev bwM : Memref sig .tc .vmem S4x4x256x512 .bf16 := Memref.whole cc0_scratch1
abbrev c0M : Memref sig .tc .vmem S2x256x512 .bf16 := Memref.whole cc0_scratch2
abbrev c1M : Memref sig .tc .vmem S4x256x512 .bf16 := Memref.whole cc0_scratch3
abbrev c2M : Memref sig .tc .vmem S2x256x512 .bf16 := Memref.whole cc0_scratch4

abbrev R1 : Rect S4x4x256x512 := Rect.unit (s := S4x4x256x512) ![1, 0, 0, 0] S1x4x256x512.size inb_S4x4x256x512_S1x4x256x512_1_0_0_0
abbrev R2 : Rect S4x4x256x512 := Rect.unit (s := S4x4x256x512) ![2, 0, 0, 0] S1x4x256x512.size inb_S4x4x256x512_S1x4x256x512_2_0_0_0
abbrev R2a : Rect S4x4x256x512 := Rect.unit (s := S4x4x256x512) ![2, 0, 0, 0] S1x2x256x512.size inb_S4x4x256x512_S1x2x256x512_2_0_0_0
abbrev R2b : Rect S4x4x256x512 := Rect.unit (s := S4x4x256x512) ![2, 2, 0, 0] S1x2x256x512.size inb_S4x4x256x512_S1x2x256x512_2_2_0_0
abbrev R3a : Rect S4x4x256x512 := Rect.unit (s := S4x4x256x512) ![3, 0, 0, 0] S1x2x256x512.size inb_S4x4x256x512_S1x2x256x512_3_0_0_0

/-- The upper two of a device's own four experts. -/
abbrev ewB : Memref sig .tc .vmem S2x256x512 .bf16 :=
  ewM.slice (Rect.unit (s := S4x256x512) ![2, 0, 0] S2x256x512.size inb_S4x256x512_S2x256x512_2_0_0) (fun _ => rfl)
/-- Slots one and two of a ring buffer (four experts), the two halves of slot two, and the lower half of slot three. -/
abbrev slot1 (M : Memref sig .tc .vmem S4x4x256x512 .bf16) : Memref sig .tc .vmem S4x256x512 .bf16 :=
  (M.slice R1 (fun _ => rfl)).squeeze S4x256x512 squeezes_S1x4x256x512_S4x256x512
abbrev slot2 (M : Memref sig .tc .vmem S4x4x256x512 .bf16) : Memref sig .tc .vmem S4x256x512 .bf16 :=
  (M.slice R2 (fun _ => rfl)).squeeze S4x256x512 squeezes_S1x4x256x512_S4x256x512
abbrev slot2a (M : Memref sig .tc .vmem S4x4x256x512 .bf16) : Memref sig .tc .vmem S2x256x512 .bf16 :=
  (M.slice R2a (fun _ => rfl)).squeeze S2x256x512 squeezes_S1x2x256x512_S2x256x512
abbrev slot2b (M : Memref sig .tc .vmem S4x4x256x512 .bf16) : Memref sig .tc .vmem S2x256x512 .bf16 :=
  (M.slice R2b (fun _ => rfl)).squeeze S2x256x512 squeezes_S1x2x256x512_S2x256x512
abbrev slot3a (M : Memref sig .tc .vmem S4x4x256x512 .bf16) : Memref sig .tc .vmem S2x256x512 .bf16 :=
  (M.slice R3a (fun _ => rfl)).squeeze S2x256x512 squeezes_S1x2x256x512_S2x256x512

/-! ## The cells -/

/-- The barrier semaphore. -/
abbrev barS : Sem sig := (SemArray.scalar (sig.barrier 0 rfl) : Sems sig S_).sem
set_option backward.proofsInPublic true in
/-- The semaphore counting transfer `i` out of its source; -/
def sendSem (i : Fin 9) : DmaSem sig := (⟨6 + i.val, by have := i.isLt; show 6 + i.val < 24; omega⟩ : Fin sig.nDmaSem)
set_option backward.proofsInPublic true in
/-- and the one counting it into its destination. -/
def recvSem (i : Fin 9) : DmaSem sig := (⟨15 + i.val, by have := i.isLt; show 15 + i.val < 24; omega⟩ : Fin sig.nDmaSem)

set_option backward.proofsInPublic true in
/-- The kernel's own scoped semaphores: nine out, nine in. -/
def osem (k : Fin 18) : SemLoc sig := .dma (⟨6 + k.val, by have := k.isLt; show 6 + k.val < 24; omega⟩ : Fin sig.nDmaSem)
set_option backward.proofsInPublic true in
/-- All semaphores of the exchange: the barrier, then those. -/
def csem (k : Fin 19) : SemLoc sig :=
  if k.val = 0 then .reg barS else .dma (⟨5 + k.val, by have := k.isLt; show 5 + k.val < 24; omega⟩ : Fin sig.nDmaSem)
/-- The cell of a device and a semaphore of the exchange. -/
abbrev kcell (ck : Dev nD × Fin 19) : GSem nD τ sig := ((ck.1 : Thread nD τ), csem ck.2)

set_option backward.proofsInPublic true in
/-- The index of transfer `i`'s outgoing semaphore; -/
def sndK (i : Fin 9) : Fin 19 := ⟨i.val + 1, by omega⟩
set_option backward.proofsInPublic true in
/-- of its incoming one. -/
def rcvK (i : Fin 9) : Fin 19 := ⟨i.val + 10, by omega⟩

abbrev barCell (c : Dev nD) : GSem nD τ sig := ((c : Thread nD τ), .reg barS)
abbrev sendCell (c : Dev nD) (i : Fin 9) : GSem nD τ sig := ((c : Thread nD τ), .dma (sendSem i))
abbrev recvCell (c : Dev nD) (i : Fin 9) : GSem nD τ sig := ((c : Thread nD τ), .dma (recvSem i))

set_option backward.proofsInPublic true in
/-- Which semaphore of the exchange a semaphore is, if any. -/
def kindOf : SemLoc sig → Option (Fin 19)
  | .reg s => if s = barS then some 0 else none
  | .dma q => if h : 6 ≤ (show Fin sig.nDmaSem from q).val then some ⟨(show Fin sig.nDmaSem from q).val - 5, by
      have := (show Fin sig.nDmaSem from q).isLt; have h2 : sig.nDmaSem = 24 := rfl; omega⟩ else none

theorem kindOf_csem (k : Fin 19) : kindOf (csem k) = some k := by revert k; decide
theorem kindOf_bar : kindOf (.reg barS) = some 0 := by decide
theorem kindOf_send (i : Fin 9) : kindOf (.dma (sendSem i)) = some (sndK i) := by revert i; decide
theorem kindOf_recv (i : Fin 9) : kindOf (.dma (recvSem i)) = some (rcvK i) := by revert i; decide
theorem csem_bar : csem 0 = .reg barS := by decide
theorem csem_send (i : Fin 9) : csem (sndK i) = .dma (sendSem i) := by revert i; decide
theorem csem_recv (i : Fin 9) : csem (rcvK i) = .dma (recvSem i) := by revert i; decide
theorem kcell_bar (c : Dev nD) : kcell (c, 0) = barCell c := by unfold kcell; rw [csem_bar]
theorem kcell_send (c : Dev nD) (i : Fin 9) : kcell (c, sndK i) = sendCell c i := by unfold kcell; rw [csem_send]
theorem kcell_recv (c : Dev nD) (i : Fin 9) : kcell (c, rcvK i) = recvCell c i := by unfold kcell; rw [csem_recv]

/-- Where transfer `i` of a device goes: three to the right, three to the left, three to its partner. -/
def tgt (i : Fin 9) (c : Dev nD) : Dev nD := if i.val < 3 then right c else if i.val < 6 then left c else partner c
/-- Where transfer `i` of a device comes from. -/
def org (i : Fin 9) (c : Dev nD) : Dev nD := if i.val < 3 then left c else if i.val < 6 then right c else partner c
theorem org_tgt (i : Fin 9) (c : Dev nD) : org i (tgt i c) = c := by revert i c; decide
theorem tgt_org (i : Fin 9) (c : Dev nD) : tgt i (org i c) = c := by revert i c; decide

/-- The credit of a transfer of four experts, and of two. -/
abbrev N4 : ℕ := (ewM : Memref sig .tc .vmem S4x256x512 .bf16).view.dmaCredit
abbrev N2 : ℕ := (c0M : Memref sig .tc .vmem S2x256x512 .bf16).view.dmaCredit
/-- Transfer `i`'s credit. -/
def Nn (i : Fin 9) : ℕ := if i.val = 2 ∨ i.val = 5 ∨ i.val = 6 ∨ i.val = 8 then N2 else N4
theorem Nn_pos (i : Fin 9) : 0 < Nn i := by
  unfold Nn; split
  · exact View.dmaCredit_pos _ (by decide)
  · exact View.dmaCredit_pos _ (by decide)

/-! ## What the buffers hold -/

section Contents
variable (W : Dev nD → (cc0_stg3_0 : Ref sig .tc).ty.Contents (Elt F))

set_option backward.proofsInPublic true in
/-- The last three coordinates of an index into a ring buffer. -/
def tl (i : S4x4x256x512.Idx) : S4x256x512.Idx := fun a => ⟨(i a.succ).val, by
  revert a; intro (a : Fin 3); fin_cases a
  · exact (i 1).isLt
  · exact (i 2).isLt
  · exact (i 3).isLt⟩
set_option backward.proofsInPublic true in
/-- The index of the upper two experts in the four. -/
def hi (j : S2x256x512.Idx) : S4x256x512.Idx := fun a => ⟨(![2, 0, 0] : Fin 3 → ℕ) a + (j a).val, by
  revert a; intro (a : Fin 3); fin_cases a
  · have : (j 0).val < 2 := (j 0).isLt
    show 2 + (j 0).val < 4; omega
  · have : (j 1).val < 256 := (j 1).isLt
    show 0 + (j 1).val < 256; omega
  · have : (j 2).val < 512 := (j 2).isLt
    show 0 + (j 2).val < 512; omega⟩

/-- The buffer filled from the left: slot `k` holds the experts of the device `k` steps to the left. -/
def FW (c : Dev nD) : (cc0_scratch0 : Ref sig .tc).ty.Contents (Elt F) :=
  fun (i : S4x4x256x512.Idx) => W (left^[(i 0).val] c) (tl i)
/-- The buffer filled from the right. -/
def BW (c : Dev nD) : (cc0_scratch1 : Ref sig .tc).ty.Contents (Elt F) :=
  fun (i : S4x4x256x512.Idx) => W (right^[(i 0).val] c) (tl i)
/-- The three buffers filled by the partner. -/
def CR0 (c : Dev nD) : (cc0_scratch2 : Ref sig .tc).ty.Contents (Elt F) :=
  fun (j : S2x256x512.Idx) => W (partner c) (hi j)
def CR1 (c : Dev nD) : (cc0_scratch3 : Ref sig .tc).ty.Contents (Elt F) := W (opp c)
def CR2 (c : Dev nD) : (cc0_scratch4 : Ref sig .tc).ty.Contents (Elt F) :=
  fun (j : S2x256x512.Idx) => W (far c) (hi j)

/-- A part of a buffer held at a share. -/
abbrev pts (c : Dev nD) {s : Shape} {e : EltTy} (M : Memref sig .tc .vmem s e) (q : PosShare TreeShare)
    (f : Buf (Elt F) (M.view.loc (c : Thread nD τ))) : sProp 𝕄 :=
  M.view.loc (c : Thread nD τ) ↦[M.view.set]{q} f

omit [FloatOps F] in
/-- What was written through a view is, on the view's elements, any contents the view reads the same from. -/
theorem land {s : Shape} {e : EltTy} (M : Memref sig .tc .vmem s e) (c : Dev nD) (fd g : M.view.ty.Contents (Elt F))
    (w : s.Idx → Elt F e) (h : M.view.read (Elt F) g = w) :
    (pts c M fullShare (M.view.write (Elt F) fd w Finset.univ) : sProp 𝕄) = pts c M fullShare g := by
  refine pointsTo_congr fun i hi => ?_
  obtain ⟨x, -, rfl⟩ := Finset.mem_map.mp hi
  rw [View.write_emb_of_mem _ _ (Finset.mem_univ x), ← h, View.read_apply, cast_cast, cast_eq]

end Contents

end Cert.IdealTalk

end

end
-- ==== Proof.Ideal.Slots.lean ====
/-
What the parts of the buffers read once everything has landed, and the element sets of the parts.
-/
module

public import proofs.«01_k».proof.Proof.Ideal.Common
public import Idealize.ShloMosaic.Lib.Pipeline.Value

@[expose] public section

noncomputable section

namespace Cert.IdealTalk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option backward.proofsInPublic true in
/-- The index of the lower two experts in the four. -/
def lo (j : S2x256x512.Idx) : S4x256x512.Idx := fun a => ⟨(j a).val, by
  revert a; intro (a : Fin 3); fin_cases a
  · have : (j 0).val < 2 := (j 0).isLt
    show (j 0).val < 4; omega
  · exact (j 1).isLt
  · exact (j 2).isLt⟩

set_option backward.proofsInPublic true in
/-- A four-expert index under a slot number. -/
def at1 (x : S4x256x512.Idx) : S1x4x256x512.Idx := fun a => ⟨(![0, (x 0).val, (x 1).val, (x 2).val] : Fin 4 → ℕ) a, by
  revert a; intro (a : Fin 4); fin_cases a
  · exact Nat.one_pos
  · exact (x 0).isLt
  · exact (x 1).isLt
  · exact (x 2).isLt⟩
set_option backward.proofsInPublic true in
/-- A two-expert index under a slot number. -/
def at1h (x : S2x256x512.Idx) : S1x2x256x512.Idx := fun a => ⟨(![0, (x 0).val, (x 1).val, (x 2).val] : Fin 4 → ℕ) a, by
  revert a; intro (a : Fin 4); fin_cases a
  · exact Nat.one_pos
  · exact (x 0).isLt
  · exact (x 1).isLt
  · exact (x 2).isLt⟩

theorem rowMajor_at1 (x : S4x256x512.Idx) : (S1x4x256x512.rowMajor (at1 x)).val = (S4x256x512.rowMajor x).val := by
  refine (Shape.rowMajor_val_four _).trans (Eq.trans ?_ (Shape.rowMajor_val_three _).symm)
  show ((0 * 4 + (x 0).val) * 256 + (x 1).val) * 512 + (x 2).val = ((x 0).val * 256 + (x 1).val) * 512 + (x 2).val
  omega
theorem rowMajor_at1h (x : S2x256x512.Idx) : (S1x2x256x512.rowMajor (at1h x)).val = (S2x256x512.rowMajor x).val := by
  refine (Shape.rowMajor_val_four _).trans (Eq.trans ?_ (Shape.rowMajor_val_three _).symm)
  show ((0 * 2 + (x 0).val) * 256 + (x 1).val) * 512 + (x 2).val = ((x 0).val * 256 + (x 1).val) * 512 + (x 2).val
  omega

/-! ## Reading the parts -/

section Read
variable (M : Memref sig .tc .vmem S4x4x256x512 .bf16) (f : M.view.ty.Contents (Elt F))

omit [FloatOps F] in
theorem read_slot1 (x : S4x256x512.Idx) : (slot1 M).view.read (Elt F) f x = M.view.readAt (Elt F) R1.toLoadRect f (at1 x) :=
  (congrFun (Memref.read_squeeze_slice M R1 (fun _ => rfl) squeezes_S1x4x256x512_S4x256x512 shapeCasts_S1x4x256x512_S4x256x512 f) x).trans
    (shapeCast_apply (s := S1x4x256x512) (t := S4x256x512) (M.view.readAt (Elt F) R1.toLoadRect f) _ x (at1 x) (rowMajor_at1 x))
omit [FloatOps F] in
theorem read_slot2 (x : S4x256x512.Idx) : (slot2 M).view.read (Elt F) f x = M.view.readAt (Elt F) R2.toLoadRect f (at1 x) :=
  (congrFun (Memref.read_squeeze_slice M R2 (fun _ => rfl) squeezes_S1x4x256x512_S4x256x512 shapeCasts_S1x4x256x512_S4x256x512 f) x).trans
    (shapeCast_apply (s := S1x4x256x512) (t := S4x256x512) (M.view.readAt (Elt F) R2.toLoadRect f) _ x (at1 x) (rowMajor_at1 x))
omit [FloatOps F] in
theorem read_slot2a (x : S2x256x512.Idx) : (slot2a M).view.read (Elt F) f x = M.view.readAt (Elt F) R2a.toLoadRect f (at1h x) :=
  (congrFun (Memref.read_squeeze_slice M R2a (fun _ => rfl) squeezes_S1x2x256x512_S2x256x512 shapeCasts_S1x2x256x512_S2x256x512 f) x).trans
    (shapeCast_apply (s := S1x2x256x512) (t := S2x256x512) (M.view.readAt (Elt F) R2a.toLoadRect f) _ x (at1h x) (rowMajor_at1h x))
omit [FloatOps F] in
theorem read_slot2b (x : S2x256x512.Idx) : (slot2b M).view.read (Elt F) f x = M.view.readAt (Elt F) R2b.toLoadRect f (at1h x) :=
  (congrFun (Memref.read_squeeze_slice M R2b (fun _ => rfl) squeezes_S1x2x256x512_S2x256x512 shapeCasts_S1x2x256x512_S2x256x512 f) x).trans
    (shapeCast_apply (s := S1x2x256x512) (t := S2x256x512) (M.view.readAt (Elt F) R2b.toLoadRect f) _ x (at1h x) (rowMajor_at1h x))
omit [FloatOps F] in
theorem read_slot3a (x : S2x256x512.Idx) : (slot3a M).view.read (Elt F) f x = M.view.readAt (Elt F) R3a.toLoadRect f (at1h x) :=
  (congrFun (Memref.read_squeeze_slice M R3a (fun _ => rfl) squeezes_S1x2x256x512_S2x256x512 shapeCasts_S1x2x256x512_S2x256x512 f) x).trans
    (shapeCast_apply (s := S1x2x256x512) (t := S2x256x512) (M.view.readAt (Elt F) R3a.toLoadRect f) _ x (at1h x) (rowMajor_at1h x))
end Read

theorem tl_R1 (x : S4x256x512.Idx) : tl (R1.toLoadRect.idx (at1 x)) = x := by
  funext (a : Fin 3); apply Fin.ext; fin_cases a
  · show 0 + 1 * (x 0).val = (x 0).val; omega
  · show 0 + 1 * (x 1).val = (x 1).val; omega
  · show 0 + 1 * (x 2).val = (x 2).val; omega
theorem tl_R2 (x : S4x256x512.Idx) : tl (R2.toLoadRect.idx (at1 x)) = x := by
  funext (a : Fin 3); apply Fin.ext; fin_cases a
  · show 0 + 1 * (x 0).val = (x 0).val; omega
  · show 0 + 1 * (x 1).val = (x 1).val; omega
  · show 0 + 1 * (x 2).val = (x 2).val; omega
theorem tl_R2a (x : S2x256x512.Idx) : tl (R2a.toLoadRect.idx (at1h x)) = lo x := by
  funext (a : Fin 3); apply Fin.ext; fin_cases a
  · show 0 + 1 * (x 0).val = (x 0).val; omega
  · show 0 + 1 * (x 1).val = (x 1).val; omega
  · show 0 + 1 * (x 2).val = (x 2).val; omega
theorem tl_R2b (x : S2x256x512.Idx) : tl (R2b.toLoadRect.idx (at1h x)) = hi x := by
  funext (a : Fin 3); apply Fin.ext; fin_cases a
  · show 2 + 1 * (x 0).val = 2 + (x 0).val; omega
  · show 0 + 1 * (x 1).val = 0 + (x 1).val; omega
  · show 0 + 1 * (x 2).val = 0 + (x 2).val; omega
theorem tl_R3a (x : S2x256x512.Idx) : tl (R3a.toLoadRect.idx (at1h x)) = lo x := by
  funext (a : Fin 3); apply Fin.ext; fin_cases a
  · show 0 + 1 * (x 0).val = (x 0).val; omega
  · show 0 + 1 * (x 1).val = (x 1).val; omega
  · show 0 + 1 * (x 2).val = (x 2).val; omega

section Landed
variable (W : Dev nD → (cc0_stg3_0 : Ref sig .tc).ty.Contents (Elt F)) (c : Dev nD)

omit [FloatOps F] in
theorem fw1_read : (slot1 fwM).view.read (Elt F) (FW W c) = fun x => W (left c) x :=
  funext fun x => (read_slot1 fwM (FW W c) x).trans (congrArg (W (left c)) (tl_R1 x))
omit [FloatOps F] in
theorem fw2_read : (slot2 fwM).view.read (Elt F) (FW W c) = fun x => W (left (left c)) x :=
  funext fun x => (read_slot2 fwM (FW W c) x).trans (congrArg (W (left (left c))) (tl_R2 x))
omit [FloatOps F] in
theorem fw2a_read : (slot2a fwM).view.read (Elt F) (FW W c) = fun x => W (left (left c)) (lo x) :=
  funext fun x => (read_slot2a fwM (FW W c) x).trans (congrArg (W (left (left c))) (tl_R2a x))
omit [FloatOps F] in
theorem fw2b_read : (slot2b fwM).view.read (Elt F) (FW W c) = fun x => W (left (left c)) (hi x) :=
  funext fun x => (read_slot2b fwM (FW W c) x).trans (congrArg (W (left (left c))) (tl_R2b x))
omit [FloatOps F] in
theorem fw3a_read : (slot3a fwM).view.read (Elt F) (FW W c) = fun x => W (left (left (left c))) (lo x) :=
  funext fun x => (read_slot3a fwM (FW W c) x).trans (congrArg (W (left (left (left c)))) (tl_R3a x))
omit [FloatOps F] in
theorem bw1_read : (slot1 bwM).view.read (Elt F) (BW W c) = fun x => W (right c) x :=
  funext fun x => (read_slot1 bwM (BW W c) x).trans (congrArg (W (right c)) (tl_R1 x))
omit [FloatOps F] in
theorem bw2_read : (slot2 bwM).view.read (Elt F) (BW W c) = fun x => W (right (right c)) x :=
  funext fun x => (read_slot2 bwM (BW W c) x).trans (congrArg (W (right (right c))) (tl_R2 x))
omit [FloatOps F] in
theorem bw2a_read : (slot2a bwM).view.read (Elt F) (BW W c) = fun x => W (right (right c)) (lo x) :=
  funext fun x => (read_slot2a bwM (BW W c) x).trans (congrArg (W (right (right c))) (tl_R2a x))
omit [FloatOps F] in
theorem bw2b_read : (slot2b bwM).view.read (Elt F) (BW W c) = fun x => W (right (right c)) (hi x) :=
  funext fun x => (read_slot2b bwM (BW W c) x).trans (congrArg (W (right (right c))) (tl_R2b x))
omit [FloatOps F] in
theorem bw3a_read : (slot3a bwM).view.read (Elt F) (BW W c) = fun x => W (right (right (right c))) (lo x) :=
  funext fun x => (read_slot3a bwM (BW W c) x).trans (congrArg (W (right (right (right c)))) (tl_R3a x))
omit [FloatOps F] in
theorem ewB_read : (ewB : Memref sig .tc .vmem S2x256x512 .bf16).view.read (Elt F) (W c) = fun x => W c (hi x) := by
  funext x
  refine congrArg (W c) ?_
  funext (a : Fin 3); apply Fin.ext; fin_cases a
  · show 2 + 1 * (x 0).val = 2 + (x 0).val; omega
  · show 0 + 1 * (x 1).val = 0 + (x 1).val; omega
  · show 0 + 1 * (x 2).val = 0 + (x 2).val; omega

end Landed

/-! ## The element sets -/

theorem fw1_set : (slot1 fwM).view.set = R1.set := (View.set_reshape _ _).trans (View.set_slice_whole _ _)
theorem fw2_set : (slot2 fwM).view.set = R2.set := (View.set_reshape _ _).trans (View.set_slice_whole _ _)
theorem fw2a_set : (slot2a fwM).view.set = R2a.set := (View.set_reshape _ _).trans (View.set_slice_whole _ _)
theorem fw2b_set : (slot2b fwM).view.set = R2b.set := (View.set_reshape _ _).trans (View.set_slice_whole _ _)
theorem fw3a_set : (slot3a fwM).view.set = R3a.set := (View.set_reshape _ _).trans (View.set_slice_whole _ _)
theorem bw1_set : (slot1 bwM).view.set = R1.set := (View.set_reshape _ _).trans (View.set_slice_whole _ _)
theorem bw2_set : (slot2 bwM).view.set = R2.set := (View.set_reshape _ _).trans (View.set_slice_whole _ _)
theorem bw2a_set : (slot2a bwM).view.set = R2a.set := (View.set_reshape _ _).trans (View.set_slice_whole _ _)
theorem bw2b_set : (slot2b bwM).view.set = R2b.set := (View.set_reshape _ _).trans (View.set_slice_whole _ _)
theorem bw3a_set : (slot3a bwM).view.set = R3a.set := (View.set_reshape _ _).trans (View.set_slice_whole _ _)

theorem R12_disj : Disjoint R1.set R2.set := Rect.unit_disjoint 0 (by decide)
theorem R13_disj : Disjoint R1.set R3a.set := Rect.unit_disjoint 0 (by decide)
theorem R23_disj : Disjoint R2.set R3a.set := Rect.unit_disjoint 0 (by decide)
theorem R2ab_disj : Disjoint R2a.set R2b.set := Rect.unit_disjoint 1 (by decide)
theorem R2ab_union : R2a.set ∪ R2b.set = R2.set := by
  ext i
  rw [Finset.mem_union, Rect.mem_set_unit, Rect.mem_set_unit, Rect.mem_set_unit]
  have h1 : (i 1).val < 4 := (i 1).isLt
  have h2 : (i 2).val < 256 := (i 2).isLt
  have h3 : (i 3).val < 512 := (i 3).isLt
  constructor
  · rintro (h | h) <;> intro (a : Fin 4) <;> have h0 := h 0 <;> fin_cases a <;>
      first | exact h0 | exact ⟨Nat.zero_le _, by first | exact h1 | exact h2 | exact h3⟩
  · intro h
    have h0 := h 0
    by_cases hc : (i 1).val < 2
    · left; intro (a : Fin 4); fin_cases a
      · exact h0
      · exact ⟨Nat.zero_le _, hc⟩
      · exact ⟨Nat.zero_le _, h2⟩
      · exact ⟨Nat.zero_le _, h3⟩
    · right; intro (a : Fin 4); fin_cases a
      · exact h0
      · exact ⟨by show 2 ≤ (i 1).val; omega, by show (i 1).val < 2 + 2; omega⟩
      · exact ⟨Nat.zero_le _, h2⟩
      · exact ⟨Nat.zero_le _, h3⟩

end Cert.IdealTalk

end

end
-- ==== Proof.Ideal.Sched.lean ====
/-
The schedule: for every semaphore cell its one round of duties, what each is worth, and what it hands over; what each
device owes at launch; the levels that order the waits; and one rule for each kind of step of the exchange.
-/
module

public import proofs.«01_k».proof.Proof.Ideal.Slots

@[expose] public section

noncomputable section

namespace Cert.IdealTalk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Shares -/

abbrev qLL : PosShare TreeShare := fullShare.left.left
abbrev qLR : PosShare TreeShare := fullShare.left.right
abbrev qRL : PosShare TreeShare := fullShare.right.left
abbrev qRR : PosShare TreeShare := fullShare.right.right
abbrev qL : PosShare TreeShare := fullShare.left
abbrev qR : PosShare TreeShare := fullShare.right

section Schedule
variable (W : Dev nD → (cc0_stg3_0 : Ref sig .tc).ty.Contents (Elt F))

/-! ## What the duties hand over -/

/-- What transfer seven sends from: slot one of the buffer filled from the left (even position) or right (odd). -/
def c1Part (c : Dev nD) (q : PosShare TreeShare) (e : Bool) : sProp 𝕄 :=
  if e then pts c (slot1 fwM) q (FW W c) else pts c (slot1 bwM) q (BW W c)
/-- What transfer eight sends from: the upper half of slot two of that buffer. -/
def c2Part (c : Dev nD) (q : PosShare TreeShare) (e : Bool) : sProp 𝕄 :=
  if e then pts c (slot2b fwM) q (FW W c) else pts c (slot2b bwM) q (BW W c)

/-- The source of a transfer, coming back when it has been read. -/
def sendPay (c : Dev nD) (i : Fin 9) : sProp 𝕄 := match i with
  | 0 => pts c ewM qLL (W c)
  | 1 => pts c (slot1 fwM) qL (FW W c)
  | 2 => pts c (slot2a fwM) qL (FW W c)
  | 3 => pts c ewM qLR (W c)
  | 4 => pts c (slot1 bwM) qL (BW W c)
  | 5 => pts c (slot2a bwM) qL (BW W c)
  | 6 => pts c ewB qRL (W c)
  | 7 => c1Part W c qRL (ev c)
  | 8 => c2Part W c qL (ev c)

/-- The destination of a transfer, holding what arrived. -/
def recvPay (c : Dev nD) (i : Fin 9) : sProp 𝕄 := match i with
  | 0 => pts c (slot1 fwM) fullShare (FW W c)
  | 1 => pts c (slot2 fwM) fullShare (FW W c)
  | 2 => pts c (slot3a fwM) fullShare (FW W c)
  | 3 => pts c (slot1 bwM) fullShare (BW W c)
  | 4 => pts c (slot2 bwM) fullShare (BW W c)
  | 5 => pts c (slot3a bwM) fullShare (BW W c)
  | 6 => pts c c0M fullShare (CR0 W c)
  | 7 => pts c c1M fullShare (CR1 W c)
  | 8 => pts c c2M fullShare (CR2 W c)

/-- Room: a part of device `n`'s memory, all of it, holding anything. -/
def room (n : Dev nD) {s : Shape} (M : Memref sig .tc .vmem s .bf16) : sProp 𝕄 := iprop(∃ f, pts n M fullShare f)
omit [FloatOps F] in
instance room_storable (n : Dev nD) {s : Shape} (M : Memref sig .tc .vmem s .bf16) :
    BI.Storable (upEmb : UEmb _ 𝕄) (room (F := F) n M) := by
  unfold room; infer_instance

/-- The parts of device `n`'s buffers that its left neighbour will fill, -/
def fwRoom (n : Dev nD) : sProp 𝕄 :=
  iprop(room n (slot1 fwM) ∗ room n (slot2 fwM) ∗ room n (slot3a fwM))
/-- its right neighbour, -/
def bwRoom (n : Dev nD) : sProp 𝕄 :=
  iprop(room n (slot1 bwM) ∗ room n (slot2 bwM) ∗ room n (slot3a bwM))
/-- and its partner. -/
def crRoom (n : Dev nD) : sProp 𝕄 :=
  iprop(room n c0M ∗ room n c1M ∗ room n c2M)

/-- What the three signals to device `c`'s barrier hand `c`: the room its neighbours have made for it. -/
def barPay (c : Dev nD) (d : Fin 3) : sProp 𝕄 := match d with
  | 0 => fwRoom (right c)
  | 1 => bwRoom (left c)
  | 2 => crRoom (partner c)

set_option backward.proofsInPublic true in
/-- What the duty `d` of the semaphore `k` of device `c` hands over. -/
def pay (c : Dev nD) (k : Fin 19) (d : Fin 3) : sProp 𝕄 :=
  if k.val = 0 then barPay c d
  else if k.val < 10 then sendPay W c ⟨(k.val - 1) % 9, Nat.mod_lt _ (by decide)⟩
  else recvPay W c ⟨(k.val - 10) % 9, Nat.mod_lt _ (by decide)⟩

omit [FloatOps F] in
instance c1Part_storable (c : Dev nD) (q e) : BI.Storable (upEmb : UEmb _ 𝕄) (c1Part W c q e) := by
  unfold c1Part; split <;> infer_instance
omit [FloatOps F] in
instance c2Part_storable (c : Dev nD) (q e) : BI.Storable (upEmb : UEmb _ 𝕄) (c2Part W c q e) := by
  unfold c2Part; split <;> infer_instance
omit [FloatOps F] in
instance sendPay_storable (c : Dev nD) (i : Fin 9) : BI.Storable (upEmb : UEmb _ 𝕄) (sendPay W c i) := by
  unfold sendPay; split <;> infer_instance
omit [FloatOps F] in
instance recvPay_storable (c : Dev nD) (i : Fin 9) : BI.Storable (upEmb : UEmb _ 𝕄) (recvPay W c i) := by
  unfold recvPay; split <;> infer_instance
omit [FloatOps F] in
instance barPay_storable (c : Dev nD) (d : Fin 3) : BI.Storable (upEmb : UEmb _ 𝕄) (barPay (F := F) c d) := by
  unfold barPay fwRoom bwRoom crRoom; split <;> infer_instance
omit [FloatOps F] in
instance pay_storable (c : Dev nD) (k : Fin 19) (d : Fin 3) : BI.Storable (upEmb : UEmb _ 𝕄) (pay W c k d) := by
  unfold pay; split
  · infer_instance
  · split <;> infer_instance

/-- How much each semaphore's duty is worth. -/
def amt (k : Fin 19) : ℕ :=
  if k.val = 0 then 1 else Nn ⟨(k.val - 1) % 9, Nat.mod_lt _ (by decide)⟩
theorem amt_pos (k : Fin 19) : 0 < amt k := by
  unfold amt; split
  · exact Nat.one_pos
  · exact Nn_pos _
theorem amt_bar : amt 0 = 1 := rfl
theorem amt_send (i : Fin 9) : amt (sndK i) = Nn i := by
  unfold amt
  rw [if_neg (by show ¬ (i.val + 1 = 0); omega)]
  congr 1; revert i; decide
theorem amt_recv (i : Fin 9) : amt (rcvK i) = Nn i := by
  unfold amt
  rw [if_neg (by show ¬ (i.val + 10 = 0); omega)]
  congr 1; revert i; decide

/-- The duties of a semaphore of the exchange: three at the barrier, one elsewhere. -/
def dutiesOf (k : Fin 19) : Finset (Fin 3) := if k.val = 0 then Finset.univ else {0}

/-- One round for every cell. -/
def Rd : Rounds.Schedule (GSem nD τ sig) (Fin 3) 𝕄 where
  duties g r := if r = 0 ∧ g.1.2 = .tc then (match kindOf g.2 with | some k => dutiesOf k | none => ∅) else ∅
  unitless _ := False
  amount g _ _ := match kindOf g.2 with | some k => amt k | none => 1
  payload g _ d := match kindOf g.2 with | some k => pay W g.1.1 k d | none => iprop(emp)
  amount_pos g _ _ _ := by
    cases h : kindOf g.2 with
    | none => exact Nat.one_pos
    | some k => exact amt_pos k

instance Rd_payload_storable (g : GSem nD τ sig) (r : ℕ) (d : Fin 3) :
    BI.Storable (upEmb : UEmb _ 𝕄) ((Rd (F := F) W).payload g r d) := by
  show BI.Storable upEmb (match kindOf g.2 with | some k => pay W g.1.1 k d | none => iprop(emp))
  split <;> infer_instance

section Facts
variable (c : Dev nD)

omit [FloatOps F] in
theorem duties_of {sm : SemLoc sig} {k : Fin 19} (h : kindOf sm = some k) :
    (Rd W).duties ((c : Thread nD τ), sm) 0 = dutiesOf k := by
  show (if 0 = 0 ∧ (c : Thread nD τ).2 = .tc then (match kindOf sm with | some k => dutiesOf k | none => ∅) else ∅) = _
  rw [if_pos ⟨rfl, rfl⟩, h]
omit [FloatOps F] in
theorem duties_later (g : GSem nD τ sig) : ∀ r, 1 ≤ r → (Rd (F := F) W).duties g r = ∅ :=
  fun r hr => if_neg fun h => by omega
omit [FloatOps F] in
theorem amount_of {sm : SemLoc sig} {k : Fin 19} (h : kindOf sm = some k) (d : Fin 3) :
    (Rd W).amount ((c : Thread nD τ), sm) 0 d = amt k := by
  show (match kindOf sm with | some k => amt k | none => 1) = _
  rw [h]
omit [FloatOps F] in
theorem payload_of {sm : SemLoc sig} {k : Fin 19} (h : kindOf sm = some k) (d : Fin 3) :
    (Rd W).payload ((c : Thread nD τ), sm) 0 d = pay W c k d := by
  show (match kindOf sm with | some k => pay W c k d | none => iprop(emp)) = _
  rw [h]

omit [FloatOps F] in
theorem duties_send (i : Fin 9) : (Rd W).duties (sendCell c i) 0 = {0} := by
  rw [duties_of W c (kindOf_send i)]; exact if_neg (by show ¬ (i.val + 1 = 0); omega)
omit [FloatOps F] in
theorem duties_recv (i : Fin 9) : (Rd W).duties (recvCell c i) 0 = {0} := by
  rw [duties_of W c (kindOf_recv i)]; exact if_neg (by show ¬ (i.val + 10 = 0); omega)
omit [FloatOps F] in
theorem duties_bar : (Rd W).duties (barCell c) 0 = Finset.univ := duties_of W c kindOf_bar
omit [FloatOps F] in
theorem amount_send (i : Fin 9) : (Rd W).amount (sendCell c i) 0 0 = Nn i := by
  rw [amount_of W c (kindOf_send i), amt_send]
omit [FloatOps F] in
theorem amount_recv (i : Fin 9) : (Rd W).amount (recvCell c i) 0 0 = Nn i := by
  rw [amount_of W c (kindOf_recv i), amt_recv]
omit [FloatOps F] in
theorem amount_bar (d : Fin 3) : (Rd W).amount (barCell c) 0 d = 1 := amount_of W c kindOf_bar d
omit [FloatOps F] in
theorem payload_bar (d : Fin 3) : (Rd W).payload (barCell c) 0 d = barPay c d := by
  rw [payload_of W c kindOf_bar]; exact if_pos rfl
omit [FloatOps F] in
theorem payload_send (i : Fin 9) : (Rd W).payload (sendCell c i) 0 0 = sendPay W c i := by
  rw [payload_of W c (kindOf_send i)]
  unfold pay
  rw [if_neg (by show ¬ (i.val + 1 = 0); omega), if_pos (by show i.val + 1 < 10; omega)]
  congr 1; revert i; decide
omit [FloatOps F] in
theorem payload_recv (i : Fin 9) : (Rd W).payload (recvCell c i) 0 0 = recvPay W c i := by
  rw [payload_of W c (kindOf_recv i)]
  unfold pay
  rw [if_neg (by show ¬ (i.val + 10 = 0); omega), if_neg (by show ¬ (i.val + 10 < 10); omega)]
  congr 1; revert i; decide
omit [FloatOps F] in
theorem expect_send (i : Fin 9) : (Rd W).expect (sendCell c i) 0 = Nn i := by
  unfold Schedule.expect Schedule.amountOf; rw [duties_send, Finset.sum_singleton, amount_send]
omit [FloatOps F] in
theorem expect_recv (i : Fin 9) : (Rd W).expect (recvCell c i) 0 = Nn i := by
  unfold Schedule.expect Schedule.amountOf; rw [duties_recv, Finset.sum_singleton, amount_recv]
omit [FloatOps F] in
theorem expect_bar : (Rd W).expect (barCell c) 0 = 3 := by
  unfold Schedule.expect Schedule.amountOf
  rw [duties_bar, Finset.sum_congr rfl fun d _ => amount_bar W c d, Finset.sum_const, Finset.card_univ, Fintype.card_fin, smul_eq_mul]
omit [FloatOps F] in
theorem rest_send (i : Fin 9) :
    bigSep ((Rd W).duties (sendCell c i) 0 \ ∅) (fun d => (Rd W).payload (sendCell c i) 0 d) = sendPay W c i := by
  rw [Finset.sdiff_empty, duties_send, bigSep_singleton, payload_send]
omit [FloatOps F] in
theorem rest_recv (i : Fin 9) :
    bigSep ((Rd W).duties (recvCell c i) 0 \ ∅) (fun d => (Rd W).payload (recvCell c i) 0 d) = recvPay W c i := by
  rw [Finset.sdiff_empty, duties_recv, bigSep_singleton, payload_recv]
omit [FloatOps F] in
theorem rest_bar :
    bigSep ((Rd W).duties (barCell c) 0 \ ∅) (fun d => (Rd W).payload (barCell c) 0 d)
      = iprop(fwRoom (right c) ∗ bwRoom (left c) ∗ crRoom (partner c)) := by
  rw [Finset.sdiff_empty, duties_bar, bigSep_univ_eq_bigSepL [0, 1, 2] (by decide) (by decide), bigSepL_cons_cons, bigSepL_cons_cons,
    bigSepL_singleton, payload_bar, payload_bar, payload_bar]
  rfl
end Facts

end Schedule

/-! ## What is owed, and the levels -/

/-- The credit of the transfers in `S` still to be sent by device `c`. -/
def Odue (S : Finset (Fin 9)) (c : Dev nD) : CellTallies nD τ sig Unit :=
  ∑ i ∈ S, tallyAt (recvCell (tgt i c) i) () (Nn i)
/-- With the barrier units to its partner, right and left neighbour. -/
def Obar2 (c : Dev nD) : CellTallies nD τ sig Unit := Odue Finset.univ c + tallyAt (barCell (partner c)) () 1
def Obar1 (c : Dev nD) : CellTallies nD τ sig Unit := Obar2 c + tallyAt (barCell (right c)) () 1
def O₀ (c : Dev nD) : CellTallies nD τ sig Unit := Obar1 c + tallyAt (barCell (left c)) () 1

theorem Odue_erase (S : Finset (Fin 9)) (i : Fin 9) (h : i ∈ S) (c : Dev nD) :
    Odue S c = Odue (S.erase i) c + tallyAt (recvCell (tgt i c) i) () (Nn i) :=
  (Finset.sum_erase_add S _ h).symm
theorem Odue_empty (c : Dev nD) : Odue ∅ c = 0 := Finset.sum_empty

theorem Odue_pos {S : Finset (Fin 9)} {c : Dev nD} {g : GSem nD τ sig} {u : Unit} (h : 0 < Odue S c g u) :
    ∃ i ∈ S, g = recvCell (tgt i c) i := by
  by_contra hn
  have h0 : Odue S c g u = 0 := by
    unfold Odue
    rw [Finset.sum_apply, Finsupp.finset_sum_apply]
    refine Finset.sum_eq_zero fun i hi => ?_
    rw [tallyAt_apply, if_neg fun h' => hn ⟨i, hi, h'.1⟩]
  omega

theorem O₀_pos {c : Dev nD} {g : GSem nD τ sig} {u : Unit} (h : 0 < O₀ c g u) :
    (∃ i, g = recvCell (tgt i c) i) ∨ ∃ n, g = barCell n := by
  unfold O₀ Obar1 Obar2 at h
  rw [Pi.add_apply, Finsupp.add_apply, Pi.add_apply, Finsupp.add_apply, Pi.add_apply, Finsupp.add_apply, tallyAt_apply, tallyAt_apply, tallyAt_apply] at h
  by_cases h0 : 0 < Odue Finset.univ c g u
  · obtain ⟨i, -, hi⟩ := Odue_pos h0; exact .inl ⟨i, hi⟩
  · by_contra hn
    rw [not_or] at hn
    rw [if_neg (fun h' => hn.2 ⟨_, h'.1⟩), if_neg (fun h' => hn.2 ⟨_, h'.1⟩), if_neg (fun h' => hn.2 ⟨_, h'.1⟩)] at h
    omega

def L (g : GSem nD τ sig) : Finset Unit := if g.1.2 = .tc then {()} else ∅
/-- The level of a semaphore: the barrier one, the arrivals two, three and four by their round, the others zero. -/
def lvOf : Option (Fin 19) → ℕ
  | none => 0
  | some k => if k.val = 0 then 1 else if k.val < 10 then 0 else 2 + (k.val - 10) % 3
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kindOf_bar]; rfl
theorem lv_send (c : Dev nD) (i : Fin 9) (u : Unit) : lv (sendCell c i) u = 0 := by
  unfold lv; rw [kindOf_send]; revert i; decide
theorem lv_recv (c : Dev nD) (i : Fin 9) (u : Unit) : lv (recvCell c i) u = 2 + i.val % 3 := by
  unfold lv; rw [kindOf_recv]; revert i; decide

omit [FloatOps F] in
/-- A wait at a semaphore lower than every arrival still owed. -/
theorem mayWait_due (c : Dev nD) (sm : SemLoc sig) (S : Finset (Fin 9)) (h : ∀ j ∈ S, lvOf (kindOf sm) < 2 + j.val % 3) :
    (levAts L lv : sProp 𝕄) ⊢ MayWait (c : Thread nD τ) sm () (Odue S c) :=
  MayOwe.of_cut (L := L) (lev := lv) (lvOf (kindOf sm))
    (fun p hp => by rw [Finset.mem_singleton.mp hp, L_tc]; exact Finset.mem_singleton_self _)
    (fun g u hg => by obtain ⟨i, -, rfl⟩ := Odue_pos hg; rw [L_tc]; exact Finset.mem_singleton_self _)
    (fun p hp => by rw [Finset.mem_singleton.mp hp]; exact le_refl _)
    (fun g u hg => by obtain ⟨i, hi, rfl⟩ := Odue_pos hg; rw [lv_recv]; exact h i hi)

omit [FloatOps F] in
/-- A staging wait: at launch and at the end. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by rcases O₀_pos hg with ⟨i, rfl⟩ | ⟨n, rfl⟩ <;> (rw [L_tc]; exact Finset.mem_singleton_self _))
      (fun p hp => by rw [Finset.mem_singleton.mp hp]; show lvOf (kindOf _) ≤ 0; rw [hq]; exact le_refl _)
      (fun g u hg => by
        rcases O₀_pos hg with ⟨i, rfl⟩ | ⟨n, rfl⟩
        · rw [lv_recv]; omega
        · rw [lv_bar]; omega)
  · rw [MayWait_zero]; iintro -; iempintro

/-! ## One rule per kind of step -/

abbrev 𝒱₀ : Variants := Variants.none

section Steps
variable (W : Dev nD → (cc0_stg3_0 : Ref sig .tc).ty.Contents (Elt F)) (K : Dev nD × Fin 19 → ℕ) (c : Dev nD)

/-- What device `c` owes, whatever it has waited for. -/
def own (O : CellTallies nD τ sig Unit) : sProp 𝕄 := iprop(∃ V, owes (c : Thread nD τ) O V)

/-- What sending transfer `i` takes: both cells' invariants, both duties' tokens, and that both rounds are open. -/
def xferG (i : Fin 9) : sProp 𝕄 :=
  iprop(cellInv ER (Rd W) (K (c, sndK i)) (sendCell c i) ∗ cellInv ER (Rd W) (K (tgt i c, rcvK i)) (recvCell (tgt i c) i)
    ∗ dutyTok ER (sendCell c i) 0 0 ∗ reached ER (sendCell c i) 0
    ∗ dutyTok ER (recvCell (tgt i c) i) 0 0 ∗ reached ER (recvCell (tgt i c) i) 0)

/-- What waiting for a transfer to have been read takes, -/
def outG (i : Fin 9) : sProp 𝕄 :=
  iprop(cellInv ER (Rd W) (K (c, sndK i)) (sendCell c i) ∗ atPos ER (sendCell c i) 0 ∅ 0)
/-- and for one to have arrived. -/
def inG (i : Fin 9) : sProp 𝕄 :=
  iprop(cellInv ER (Rd W) (K (c, rcvK i)) (recvCell c i) ∗ atPos ER (recvCell c i) 0 ∅ 0)
/-- What signalling device `n`'s barrier under duty `d` takes. -/
def sigG (n : Dev nD) (d : Fin 3) : sProp 𝕄 :=
  iprop(cellInv ER (Rd W) (K (n, 0)) (barCell n) ∗ dutyTok ER (barCell n) 0 d ∗ reached ER (barCell n) 0)
/-- What waiting at the own barrier takes. -/
def barG : sProp 𝕄 :=
  iprop(cellInv ER (Rd W) (K (c, 0)) (barCell c) ∗ atPos ER (barCell c) 0 ∅ 0)

/-- Sending transfer `i`: its source and its destination's room go in, its outgoing credit comes back and its debt is off. -/
theorem wp_xfer (i : Fin 9) (S : Finset (Fin 9)) (hi : i ∈ S) {s : Shape} {src dst : Memref sig .tc .vmem s .bf16}
    (n : Dev nD) (hn : n = tgt i c) (sS sR : DmaSem sig) (hs : sS = sendSem i) (hr : sR = recvSem i)
    (hN : dst.view.dmaCredit = Nn i)
    {hsc : (dst : Memref sig (Dev.tc n : Thread nD τ).2.kind .vmem s .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (q : PosShare TreeShare) (fs : src.view.ty.Contents (Elt F)) (fd : dst.view.ty.Contents (Elt F))
    (h₁ : pts c src q fs ⊢ sendPay W c i)
    (h₂ : pts (tgt i c) dst fullShare (dst.view.write (Elt F) fd (src.view.read (Elt F) fs) Finset.univ) ⊢ recvPay W (tgt i c) i) :
    iprop(xferG W K c i ∗ pts c src q fs ∗ pts (tgt i c) dst fullShare fd ∗ own c (Odue S c))
      ⊢ iprop(((cred (tallyAt (sendCell c i) () (Nn i)) ∗ own c (Odue (S.erase i) c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn; subst hs; subst hr
  unfold xferG own
  iintro ⟨⟨#HI1, #HI2, Ht1, #Hr1, Ht2, #Hr2⟩, Hs, Hd, ⟨%V, HO⟩⟩ Hk
  iapply (Rounds.wp_send_pointsTo 𝒱₀ ER (Rd W) (c : Thread nD τ) none (κ₁ := K (c, sndK i)) (κ₂ := K (tgt i c, rcvK i))
    (r₁ := 0) (r₂ := 0) (d₁ := 0) (d₂ := 0) (q := q) (fs := fs) (fd := fd)
    (by rw [duties_send]; exact Finset.mem_singleton_self _) (by rw [duties_recv]; exact Finset.mem_singleton_self _)
    () () (Nn i) (show dst.view.amount (.dma (recvSem i)) = Nn i from hN) (amount_send W c i) (amount_recv W (tgt i c) i) (Odue (S.erase i) c) (Odue_erase S i hi c) (W := V)
    (by rw [payload_send]; exact h₁) (by rw [payload_recv]; exact h₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists V; iexact HO

/-- Waiting until transfer `i` has been read out of its source: the source comes back, and the semaphore is at zero for good. -/
theorem wp_out (i : Fin 9) (S : Finset (Fin 9)) {s s' : Shape} {e e' : EltTy} {src : Memref sig .tc .vmem s' e'} {dst : Memref sig .tc .vmem s e}
    (sm : DmaSem sig) (hs : sm = sendSem i) (hN : dst.view.dmaCredit = Nn i)
    {hsrc : src.view.WordExact} {hdst : dst.view.WordExact}
    {α : Type} {Q : α → sProp 𝕄} {k : PUnit → Prog (TpuEff nD τ sig (Elt F) Λ₀ .tc) α} :
    iprop(outG W K c i ∗ cred (tallyAt (sendCell c i) () (Nn i)) ∗ own c (Odue S c) ∗ levAts L lv)
      ⊢ iprop(((sendPay W c i ∗ semVal (sendCell c i) 0 ∗ own c (Odue S c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hs
  unfold outG own
  iintro ⟨⟨#HI, Hat⟩, Hc, ⟨%V, HO⟩, #Hlev⟩ Hk
  iapply (Rounds.wp_wait_rest_token 𝒱₀ ER (Rd W) (c : Thread nD τ) none (κ := K (c, sndK i))
      (wpE_waitDma2_eq 𝒱₀ (c : Thread nD τ) none Set.univ) (Set.mem_univ _) () (O := Odue S c) (W := V) (R := 0) (m := 0) (T := ∅)
      (by rw [Nat.zero_add, expect_send, hN])) $$ [Hc HO Hat]
  · isplitr; · iexact HI
    isplitl [Hc]; · rw [hN]; iexact Hc
    isplitl [HO]; · iexact HO
    isplitr
    · iapply (mayWait_due c (.dma (sendSem i)) S (fun j _ => by rw [kindOf_send]; show lvOf (some (sndK i)) < _; rw [show lvOf (some (sndK i)) = 0 from by clear hN; revert i; decide]; omega))
      iexact Hlev
    iexact Hat
  iintro ⟨HO, Hat, -, Hpay⟩
  ihave Hp := (Entails.of_eq (rest_send W c i)) $$ Hpay
  imod (Rounds.cell_close ER (Rd W) (Set.mem_univ (K (c, sndK i))) (fun h => h) (R := 0 + 1) (duties_later W (sendCell c i))) $$ [Hat] with Hz
  · isplitr; · iexact HI
    iexact Hat
  iapply Hk
  isplitl [Hp]; · iexact Hp
  isplitl [Hz]; · iexact Hz
  iexists _; iexact HO

/-- Waiting until transfer `i` from the neighbour has arrived: its destination comes, and the semaphore is at zero for good. -/
theorem wp_in (i : Fin 9) (S : Finset (Fin 9)) (hS : ∀ j ∈ S, i.val % 3 < j.val % 3) {s s' : Shape} {e e' : EltTy} {src : Memref sig .tc .vmem s' e'} {dst : Memref sig .tc .vmem s e}
    (sm : DmaSem sig) (hs : sm = recvSem i) (hN : dst.view.dmaCredit = Nn i)
    {hsrc : src.view.WordExact} {hdst : dst.view.WordExact}
    {α : Type} {Q : α → sProp 𝕄} {k : PUnit → Prog (TpuEff nD τ sig (Elt F) Λ₀ .tc) α} :
    iprop(inG W K c i ∗ cred (tallyAt (recvCell c i) () (Nn i)) ∗ own c (Odue S c) ∗ levAts L lv)
      ⊢ iprop(((recvPay W c i ∗ semVal (recvCell c i) 0 ∗ own c (Odue S c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hs
  unfold inG own
  iintro ⟨⟨#HI, Hat⟩, Hc, ⟨%V, HO⟩, #Hlev⟩ Hk
  iapply (Rounds.wp_wait_rest_token 𝒱₀ ER (Rd W) (c : Thread nD τ) none (κ := K (c, rcvK i))
      (wpE_waitDma2_eq 𝒱₀ (c : Thread nD τ) none Set.univ) (Set.mem_univ _) () (O := Odue S c) (W := V) (R := 0) (m := 0) (T := ∅)
      (by rw [Nat.zero_add, expect_recv, hN])) $$ [Hc HO Hat]
  · isplitr; · iexact HI
    isplitl [Hc]; · rw [hN]; iexact Hc
    isplitl [HO]; · iexact HO
    isplitr
    · iapply (mayWait_due c (.dma (recvSem i)) S (fun j hj => by
        rw [kindOf_recv, show lvOf (some (rcvK i)) = 2 + i.val % 3 from by clear hS hN; revert i; decide]; have := hS j hj; omega))
      iexact Hlev
    iexact Hat
  iintro ⟨HO, Hat, -, Hpay⟩
  ihave Hp := (Entails.of_eq (rest_recv W c i)) $$ Hpay
  imod (Rounds.cell_close ER (Rd W) (Set.mem_univ (K (c, rcvK i))) (fun h => h) (R := 0 + 1) (duties_later W (recvCell c i))) $$ [Hat] with Hz
  · isplitr; · iexact HI
    iexact Hat
  iapply Hk
  isplitl [Hp]; · iexact Hp
  isplitl [Hz]; · iexact Hz
  iexists _; iexact HO

/-- Signalling a neighbour's barrier: the room made for it goes in, and the debt is off. -/
theorem wp_sig (n : Dev nD) (d : Fin 3) (O : CellTallies nD τ sig Unit) (n' : Dev nD) (hn : n' = n)
    {α : Type} {Q : α → sProp 𝕄} {k : PUnit → Prog (TpuEff nD τ sig (Elt F) Λ₀ .tc) α} (a : ℤ) (ha : a = 1) :
    iprop(sigG W K n d ∗ barPay n d ∗ own c (O + tallyAt (barCell n) () 1))
      ⊢ iprop((own c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS a) k) Q) := by
  subst hn; subst ha
  unfold sigG own
  iintro ⟨⟨#HI, Ht, #Hr⟩, Hp, ⟨%V, HO⟩⟩ Hk
  iapply (Rounds.wp_signal 𝒱₀ ER (Rd W) (c : Thread nD τ) none (dst := (n' : Thread nD τ)) (κ := K (n', 0))
      (d := d) (by rw [duties_bar]; exact Finset.mem_univ _) (amount_bar W n' d) () O rfl) $$ [HO Ht Hp]
  · isplitr; · iexact HI
    isplitl [HO]; · iexact HO
    isplitl [Ht]; · iexact Ht
    isplitl [Hp]; · rw [payload_bar]; iexact Hp
    iexact Hr
  iintro HO
  iapply Hk
  iexists V; iexact HO

/-- Waiting for the three neighbours: the room they have made comes. -/
theorem wp_bar {α : Type} {Q : α → sProp 𝕄} {k : PUnit → Prog (TpuEff nD τ sig (Elt F) Λ₀ .tc) α} (a : ℤ) (ha : a = 3) :
    iprop(barG W K c ∗ cred (tallyAt (barCell c) () 3) ∗ own c (Odue Finset.univ c) ∗ levAts L lv)
      ⊢ iprop(((fwRoom (right c) ∗ bwRoom (left c) ∗ crRoom (partner c) ∗ semVal (barCell c) 0 ∗ own c (Odue Finset.univ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold barG own
  iintro ⟨⟨#HI, Hat⟩, Hc, ⟨%V, HO⟩, #Hlev⟩ Hk
  iapply (Rounds.wp_wait_rest_token 𝒱₀ ER (Rd W) (c : Thread nD τ) none (κ := K (c, 0))
      (wpE_semWait_eq 𝒱₀ (c : Thread nD τ) none Set.univ) (Set.mem_univ _) () (O := Odue Finset.univ c) (W := V) (R := 0) (m := 0) (T := ∅)
      (by rw [expect_bar])) $$ [Hc HO Hat]
  · isplitr; · iexact HI
    isplitl [Hc]; · iexact Hc
    isplitl [HO]; · iexact HO
    isplitr
    · iapply (mayWait_due c (.reg barS) Finset.univ (fun j _ => by rw [kindOf_bar]; show 1 < _; omega))
      iexact Hlev
    iexact Hat
  iintro ⟨HO, Hat, -, Hpay⟩
  ihave Hp := (Entails.of_eq (rest_bar W c)) $$ Hpay
  icases Hp with ⟨H1, H2, H3⟩
  imod (Rounds.cell_close ER (Rd W) (Set.mem_univ (K (c, 0))) (fun h => h) (R := 0 + 1) (duties_later W (barCell c))) $$ [Hat] with Hz
  · isplitr; · iexact HI
    iexact Hat
  iapply Hk
  isplitl [H1]; · iexact H1
  isplitl [H2]; · iexact H2
  isplitl [H3]; · iexact H3
  isplitl [Hz]; · iexact Hz
  iexists _; iexact HO

end Steps

end Cert.IdealTalk

end

end
-- ==== Proof.Ideal.Parts.lean ====
/-
The kernel's parts, one by one: what each needs, what it leaves, and what it computes.
-/
module

public import proofs.«01_k».proof.Proof.Ideal.Sched

@[expose] public section

noncomputable section

namespace Cert.IdealTalk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What has landed -/

section Land
variable (W : Dev nD → (cc0_stg3_0 : Ref sig .tc).ty.Contents (Elt F)) (c : Dev nD)

omit [FloatOps F] in
theorem land_0 (fd : (slot1 fwM).view.ty.Contents (Elt F)) :
    (pts (tgt 0 c) (slot1 fwM) fullShare ((slot1 fwM).view.write (Elt F) fd (ewM.view.read (Elt F) (W c)) Finset.univ) : sProp 𝕄)
      ⊢ recvPay W (tgt 0 c) 0 :=
  Entails.of_eq (land (slot1 fwM) (right c) fd (FW W (right c)) _ (by rw [fw1_read, left_right]; rfl))
omit [FloatOps F] in
theorem land_3 (fd : (slot1 bwM).view.ty.Contents (Elt F)) :
    (pts (tgt 3 c) (slot1 bwM) fullShare ((slot1 bwM).view.write (Elt F) fd (ewM.view.read (Elt F) (W c)) Finset.univ) : sProp 𝕄)
      ⊢ recvPay W (tgt 3 c) 3 :=
  Entails.of_eq (land (slot1 bwM) (left c) fd (BW W (left c)) _ (by rw [bw1_read, right_left]; rfl))
omit [FloatOps F] in
theorem land_6 (fd : (c0M : Memref sig .tc .vmem S2x256x512 .bf16).view.ty.Contents (Elt F)) :
    (pts (tgt 6 c) c0M fullShare (c0M.view.write (Elt F) fd (ewB.view.read (Elt F) (W c)) Finset.univ) : sProp 𝕄)
      ⊢ recvPay W (tgt 6 c) 6 :=
  Entails.of_eq (land c0M (partner c) fd (CR0 W (partner c)) _ (by
    rw [ewB_read]; show CR0 W (partner c) = _; unfold CR0; rw [partner_partner]))
omit [FloatOps F] in
theorem land_1 (fd : (slot2 fwM).view.ty.Contents (Elt F)) :
    (pts (tgt 1 c) (slot2 fwM) fullShare ((slot2 fwM).view.write (Elt F) fd ((slot1 fwM).view.read (Elt F) (FW W c)) Finset.univ) : sProp 𝕄)
      ⊢ recvPay W (tgt 1 c) 1 :=
  Entails.of_eq (land (slot2 fwM) (right c) fd (FW W (right c)) _ (by rw [fw2_read, fw1_read, left_right]))
omit [FloatOps F] in
theorem land_4 (fd : (slot2 bwM).view.ty.Contents (Elt F)) :
    (pts (tgt 4 c) (slot2 bwM) fullShare ((slot2 bwM).view.write (Elt F) fd ((slot1 bwM).view.read (Elt F) (BW W c)) Finset.univ) : sProp 𝕄)
      ⊢ recvPay W (tgt 4 c) 4 :=
  Entails.of_eq (land (slot2 bwM) (left c) fd (BW W (left c)) _ (by rw [bw2_read, bw1_read, right_left]))
omit [FloatOps F] in
theorem land_2 (fd : (slot3a fwM).view.ty.Contents (Elt F)) :
    (pts (tgt 2 c) (slot3a fwM) fullShare ((slot3a fwM).view.write (Elt F) fd ((slot2a fwM).view.read (Elt F) (FW W c)) Finset.univ) : sProp 𝕄)
      ⊢ recvPay W (tgt 2 c) 2 :=
  Entails.of_eq (land (slot3a fwM) (right c) fd (FW W (right c)) _ (by rw [fw3a_read, fw2a_read, left_right]))
omit [FloatOps F] in
theorem land_5 (fd : (slot3a bwM).view.ty.Contents (Elt F)) :
    (pts (tgt 5 c) (slot3a bwM) fullShare ((slot3a bwM).view.write (Elt F) fd ((slot2a bwM).view.read (Elt F) (BW W c)) Finset.univ) : sProp 𝕄)
      ⊢ recvPay W (tgt 5 c) 5 :=
  Entails.of_eq (land (slot3a bwM) (left c) fd (BW W (left c)) _ (by rw [bw3a_read, bw2a_read, right_left]))
omit [FloatOps F] in
theorem land_7f (h : ev c = true) (fd : (c1M : Memref sig .tc .vmem S4x256x512 .bf16).view.ty.Contents (Elt F)) :
    (pts (tgt 7 c) c1M fullShare (c1M.view.write (Elt F) fd ((slot1 fwM).view.read (Elt F) (FW W c)) Finset.univ) : sProp 𝕄)
      ⊢ recvPay W (tgt 7 c) 7 :=
  Entails.of_eq (land c1M (partner c) fd (CR1 W (partner c)) _ (by
    rw [fw1_read]; show CR1 W (partner c) = _; unfold CR1; rw [opp_partner, if_pos h]))
omit [FloatOps F] in
theorem land_7b (h : ev c = false) (fd : (c1M : Memref sig .tc .vmem S4x256x512 .bf16).view.ty.Contents (Elt F)) :
    (pts (tgt 7 c) c1M fullShare (c1M.view.write (Elt F) fd ((slot1 bwM).view.read (Elt F) (BW W c)) Finset.univ) : sProp 𝕄)
      ⊢ recvPay W (tgt 7 c) 7 :=
  Entails.of_eq (land c1M (partner c) fd (CR1 W (partner c)) _ (by
    rw [bw1_read]; show CR1 W (partner c) = _; unfold CR1; rw [opp_partner, h]; rfl))
omit [FloatOps F] in
theorem land_8f (h : ev c = true) (fd : (c2M : Memref sig .tc .vmem S2x256x512 .bf16).view.ty.Contents (Elt F)) :
    (pts (tgt 8 c) c2M fullShare (c2M.view.write (Elt F) fd ((slot2b fwM).view.read (Elt F) (FW W c)) Finset.univ) : sProp 𝕄)
      ⊢ recvPay W (tgt 8 c) 8 :=
  Entails.of_eq (land c2M (partner c) fd (CR2 W (partner c)) _ (by
    rw [fw2b_read]; show CR2 W (partner c) = _; unfold CR2; rw [far_partner, if_pos h]))
omit [FloatOps F] in
theorem land_8b (h : ev c = false) (fd : (c2M : Memref sig .tc .vmem S2x256x512 .bf16).view.ty.Contents (Elt F)) :
    (pts (tgt 8 c) c2M fullShare (c2M.view.write (Elt F) fd ((slot2b bwM).view.read (Elt F) (BW W c)) Finset.univ) : sProp 𝕄)
      ⊢ recvPay W (tgt 8 c) 8 :=
  Entails.of_eq (land c2M (partner c) fd (CR2 W (partner c)) _ (by
    rw [bw2b_read]; show CR2 W (partner c) = _; unfold CR2; rw [far_partner, h]; rfl))
end Land

/-! ## The words the kernel computes from its device number -/

/-- A ring position (taken mod eight) to the device number there, and back. -/
def wperm (v : BitVec 32) : BitVec 32 :=
  Scalar.select (Scalar.cmpi .slt (Scalar.remsi (Scalar.addi v 16#32) 8#32) 4#32) (Scalar.remsi (Scalar.addi v 16#32) 8#32)
    (Scalar.subi 11#32 (Scalar.remsi (Scalar.addi v 16#32) 8#32))
def w2 (c : Dev nD) : BitVec 32 := Scalar.remsi (Scalar.divsi (Dev.word c) 1#32) 8#32
def w7 (c : Dev nD) : BitVec 32 := wperm (w2 c)
def w13 (c : Dev nD) : BitVec 32 := wperm (Scalar.addi (w7 c) 1#32)
def w19 (c : Dev nD) : BitVec 32 := wperm (Scalar.subi (w7 c) 1#32)
def w21 (c : Dev nD) : BitVec 1 := Scalar.cmpi .eq (Scalar.remsi (w7 c) 2#32) 0#32
def w29 (c : Dev nD) : BitVec 32 := wperm (Scalar.select (w21 c) (Scalar.addi (w7 c) 3#32) (Scalar.subi (w7 c) 3#32))

/-! ## The semaphores as the kernel names them -/

abbrev ss0 : DmaSem sig := ((cc0_scratch5.slice (Rect.unit (s := S9) ![0] S1.size inb_S9_S1_0)).squeeze S_ squeezes_S1_S_).sem
abbrev rs0 : DmaSem sig := ((cc0_scratch6.slice (Rect.unit (s := S9) ![0] S1.size inb_S9_S1_0)).squeeze S_ squeezes_S1_S_).sem
theorem ss0_eq : ss0 = sendSem 0 := rfl
theorem rs0_eq : rs0 = recvSem 0 := rfl
abbrev ss1 : DmaSem sig := ((cc0_scratch5.slice (Rect.unit (s := S9) ![1] S1.size inb_S9_S1_1)).squeeze S_ squeezes_S1_S_).sem
abbrev rs1 : DmaSem sig := ((cc0_scratch6.slice (Rect.unit (s := S9) ![1] S1.size inb_S9_S1_1)).squeeze S_ squeezes_S1_S_).sem
theorem ss1_eq : ss1 = sendSem 1 := rfl
theorem rs1_eq : rs1 = recvSem 1 := rfl
abbrev ss2 : DmaSem sig := ((cc0_scratch5.slice (Rect.unit (s := S9) ![2] S1.size inb_S9_S1_2)).squeeze S_ squeezes_S1_S_).sem
abbrev rs2 : DmaSem sig := ((cc0_scratch6.slice (Rect.unit (s := S9) ![2] S1.size inb_S9_S1_2)).squeeze S_ squeezes_S1_S_).sem
theorem ss2_eq : ss2 = sendSem 2 := rfl
theorem rs2_eq : rs2 = recvSem 2 := rfl
abbrev ss3 : DmaSem sig := ((cc0_scratch5.slice (Rect.unit (s := S9) ![3] S1.size inb_S9_S1_3)).squeeze S_ squeezes_S1_S_).sem
abbrev rs3 : DmaSem sig := ((cc0_scratch6.slice (Rect.unit (s := S9) ![3] S1.size inb_S9_S1_3)).squeeze S_ squeezes_S1_S_).sem
theorem ss3_eq : ss3 = sendSem 3 := rfl
theorem rs3_eq : rs3 = recvSem 3 := rfl
abbrev ss4 : DmaSem sig := ((cc0_scratch5.slice (Rect.unit (s := S9) ![4] S1.size inb_S9_S1_4)).squeeze S_ squeezes_S1_S_).sem
abbrev rs4 : DmaSem sig := ((cc0_scratch6.slice (Rect.unit (s := S9) ![4] S1.size inb_S9_S1_4)).squeeze S_ squeezes_S1_S_).sem
theorem ss4_eq : ss4 = sendSem 4 := rfl
theorem rs4_eq : rs4 = recvSem 4 := rfl
abbrev ss5 : DmaSem sig := ((cc0_scratch5.slice (Rect.unit (s := S9) ![5] S1.size inb_S9_S1_5)).squeeze S_ squeezes_S1_S_).sem
abbrev rs5 : DmaSem sig := ((cc0_scratch6.slice (Rect.unit (s := S9) ![5] S1.size inb_S9_S1_5)).squeeze S_ squeezes_S1_S_).sem
theorem ss5_eq : ss5 = sendSem 5 := rfl
theorem rs5_eq : rs5 = recvSem 5 := rfl
abbrev ss6 : DmaSem sig := ((cc0_scratch5.slice (Rect.unit (s := S9) ![6] S1.size inb_S9_S1_6)).squeeze S_ squeezes_S1_S_).sem
abbrev rs6 : DmaSem sig := ((cc0_scratch6.slice (Rect.unit (s := S9) ![6] S1.size inb_S9_S1_6)).squeeze S_ squeezes_S1_S_).sem
theorem ss6_eq : ss6 = sendSem 6 := rfl
theorem rs6_eq : rs6 = recvSem 6 := rfl
abbrev ss7 : DmaSem sig := ((cc0_scratch5.slice (Rect.unit (s := S9) ![7] S1.size inb_S9_S1_7)).squeeze S_ squeezes_S1_S_).sem
abbrev rs7 : DmaSem sig := ((cc0_scratch6.slice (Rect.unit (s := S9) ![7] S1.size inb_S9_S1_7)).squeeze S_ squeezes_S1_S_).sem
theorem ss7_eq : ss7 = sendSem 7 := rfl
theorem rs7_eq : rs7 = recvSem 7 := rfl
abbrev ss8 : DmaSem sig := ((cc0_scratch5.slice (Rect.unit (s := S9) ![8] S1.size inb_S9_S1_8)).squeeze S_ squeezes_S1_S_).sem
abbrev rs8 : DmaSem sig := ((cc0_scratch6.slice (Rect.unit (s := S9) ![8] S1.size inb_S9_S1_8)).squeeze S_ squeezes_S1_S_).sem
theorem ss8_eq : ss8 = sendSem 8 := rfl
theorem rs8_eq : rs8 = recvSem 8 := rfl

/-! ## The parts -/

section Parts
variable (W : Dev nD → (cc0_stg3_0 : Ref sig .tc).ty.Contents (Elt F)) (K : Dev nD × Fin 19 → ℕ) (c : Dev nD)

/-- The transfers still owed, after each send in program order. -/
abbrev Sq1 : Finset (Fin 9) := Finset.univ.erase 0
abbrev Sq2 : Finset (Fin 9) := Sq1.erase 3
abbrev Sq3 : Finset (Fin 9) := Sq2.erase 6
abbrev Sq4 : Finset (Fin 9) := Sq3.erase 1
abbrev Sq5 : Finset (Fin 9) := Sq4.erase 4
abbrev Sq6 : Finset (Fin 9) := Sq5.erase 7
abbrev Sq7 : Finset (Fin 9) := Sq6.erase 2
abbrev Sq8 : Finset (Fin 9) := Sq7.erase 5
abbrev Sq9 : Finset (Fin 9) := Sq8.erase 8

/-- The weakest precondition of a program on device `c`. -/
abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The credit of a transfer's outgoing side. -/
abbrev crS (i : Fin 9) : sProp 𝕄 := cred (tallyAt (sendCell c i) () (Nn i))
abbrev crR (i : Fin 9) : sProp 𝕄 := cred (tallyAt (recvCell c i) () (Nn i))

theorem wp_part1 (Q : _ → sProp 𝕄) :
    Q ⟨c, w2 c, w7 c, w13 c, w19 c, w21 c, w29 c, SemArray.scalar (sig.barrier 0 rfl), Scalar.muli (w19 c) 1#32, 0#32⟩
      ⊢ wpc c (k0_part1 (F := F) xM (Memref.isWhole_whole _) rwM (Memref.isWhole_whole _) idM (Memref.isWhole_whole _) ewM (Memref.isWhole_whole _)
          swM (Memref.isWhole_whole _) oM (Memref.isWhole_whole _) fwM (Memref.isWhole_whole _) bwM (Memref.isWhole_whole _)
          c0M (Memref.isWhole_whole _) c1M (Memref.isWhole_whole _) c2M (Memref.isWhole_whole _) cc0_scratch5 cc0_scratch6) Q := by
  rw [k0_part1_eq_skeleton]; unfold k0_part1_skel
  simp only [Prog.lift, Prog.bind_op, Prog.bind_ret, Prog.pure_eq_ret, wp_deviceId]
  exact le_wp_ret _ _ _ (⟨c, w2 c, w7 c, w13 c, w19 c, w21 c, w29 c, SemArray.scalar (sig.barrier 0 rfl), Scalar.muli (w19 c) 1#32, 0#32⟩) Q

theorem wp_part2 (v13 v19 v29 v31 z : BitVec 32) (Q : PUnit → sProp 𝕄) :
    iprop(sigG W K (left c) 0 ∗ fwRoom c ∗ sigG W K (right c) 1 ∗ bwRoom c ∗ sigG W K (partner c) 2 ∗ crRoom c
        ∗ barG W K c ∗ cred (tallyAt (barCell c) () 3) ∗ own c (O₀ c) ∗ levAts L lv
        ∗ xferG W K c 0 ∗ xferG W K c 3 ∗ pts c ewM qLL (W c) ∗ pts c ewM qLR (W c))
      ⊢ iprop(((room (right c) (slot2 fwM) ∗ room (right c) (slot3a fwM) ∗ room (left c) (slot2 bwM) ∗ room (left c) (slot3a bwM)
              ∗ crRoom (partner c) ∗ semVal (barCell c) 0 ∗ crS c 0 ∗ crS c 3 ∗ own c (Odue Sq2 c)) -∗ Q ⟨⟩)
          -∗ wpc c (k0_part2 (F := F) xM (Memref.isWhole_whole _) rwM (Memref.isWhole_whole _) idM (Memref.isWhole_whole _) ewM (Memref.isWhole_whole _)
          swM (Memref.isWhole_whole _) oM (Memref.isWhole_whole _) fwM (Memref.isWhole_whole _) bwM (Memref.isWhole_whole _)
          c0M (Memref.isWhole_whole _) c1M (Memref.isWhole_whole _) c2M (Memref.isWhole_whole _) cc0_scratch5 cc0_scratch6
            c v13 v19 v29 (SemArray.scalar (sig.barrier 0 rfl)) v31 z) Q) := by
  rw [k0_part2_eq_skeleton]; unfold k0_part2_skel
  simp only [semSignalWord, semWaitWord, Prog.lift, Prog.bind_op, Prog.bind_ret, Prog.pure_eq_ret]
  iintro ⟨Hg0, Hf, Hg1, Hb, Hg2, Hcr, Hbar, Hcb, HO, #Hlev, Hx0, Hx3, Hs0, Hs3⟩ Hk
  iapply (wp_sig W K c (left c) 0 (Obar1 c) _ (dev1_eq c) _ (by decide)) $$ [Hg0 Hf HO]
  · isplitl [Hg0]; · iexact Hg0
    isplitl [Hf]; · unfold barPay; rw [right_left]; iexact Hf
    iexact HO
  iintro HO
  iapply (wp_sig W K c (right c) 1 (Obar2 c) _ (dev2_eq c) _ (by decide)) $$ [Hg1 Hb HO]
  · isplitl [Hg1]; · iexact Hg1
    isplitl [Hb]; · unfold barPay; rw [left_right]; iexact Hb
    iexact HO
  iintro HO
  iapply (wp_sig W K c (partner c) 2 (Odue Finset.univ c) _ (dev3_eq c) _ (by decide)) $$ [Hg2 Hcr HO]
  · isplitl [Hg2]; · iexact Hg2
    isplitl [Hcr]; · unfold barPay; rw [partner_partner]; iexact Hcr
    iexact HO
  iintro HO
  iapply (wp_bar W K c _ (by decide)) $$ [Hbar Hcb HO]
  · isplitl [Hbar]; · iexact Hbar
    isplitl [Hcb]; · iexact Hcb
    isplitl [HO]; · iexact HO
    iexact Hlev
  iintro ⟨Hf, Hb, Hcr, Hz, HO⟩
  unfold fwRoom bwRoom
  icases Hf with ⟨Hf1, Hf2, Hf3⟩
  icases Hb with ⟨Hb1, Hb2, Hb3⟩
  unfold room
  icases Hf1 with ⟨%f1, Hf1⟩
  icases Hb1 with ⟨%b1, Hb1⟩
  iapply (wp_xfer W K c 0 Finset.univ (by decide) (src := ewM) (dst := slot1 fwM) _ (dev4_eq c) ss0 rs0 ss0_eq rs0_eq rfl qLL (W c) f1 (Entails.refl _) (land_0 W c f1)) $$ [Hx0 Hs0 Hf1 HO]
  · isplitl [Hx0]; · iexact Hx0
    isplitl [Hs0]; · iexact Hs0
    isplitl [Hf1]; · iexact Hf1
    iexact HO
  iintro ⟨Hc0, HO⟩
  iapply (wp_xfer W K c 3 Sq1 (by decide) (src := ewM) (dst := slot1 bwM) _ (dev5_eq c) ss3 rs3 ss3_eq rs3_eq rfl qLR (W c) b1 (Entails.refl _) (land_3 W c b1)) $$ [Hx3 Hs3 Hb1 HO]
  · isplitl [Hx3]; · iexact Hx3
    isplitl [Hs3]; · iexact Hs3
    isplitl [Hb1]; · iexact Hb1
    iexact HO
  iintro ⟨Hc3, HO⟩
  iapply (le_wp_ret _ _ _ _ _)
  iapply Hk
  isplitl [Hf2]; · iexact Hf2
  isplitl [Hf3]; · iexact Hf3
  isplitl [Hb2]; · iexact Hb2
  isplitl [Hb3]; · iexact Hb3
  isplitl [Hcr]; · iexact Hcr
  isplitl [Hz]; · iexact Hz
  isplitl [Hc0]; · iexact Hc0
  isplitl [Hc3]; · iexact Hc3
  iexact HO

end Parts

end Cert.IdealTalk

end

end
-- ==== Proof.Ideal.Parts2.lean ====
/-
The kernel's remaining parts, one by one: what each needs, what it leaves, and what it computes.
-/
module

public import proofs.«01_k».proof.Proof.Ideal.Parts

@[expose] public section

noncomputable section

namespace Cert.IdealTalk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loads and stores -/

section Access
omit [FloatOps F]
theorem hz2 : (![0, 0] : Fin 2 → Nat) = fun _ => 0 := funext fun a => by fin_cases a <;> rfl
theorem hz3 : (![0, 0, 0] : Fin 3 → Nat) = fun _ => 0 := funext fun a => by fin_cases a <;> rfl
theorem ld_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 hz2 _ f
theorem ld_rw (f : (cc0_stg1_0 : Ref sig .tc).ty.Contents (Elt F)) :
    rwM.view.readAt (Elt F) (Rect.unit (s := S256x32) ![0, 0] S256x32.size inb_S256x32_S256x32_0_0).toLoadRect f = f :=
  Memref.readAt_unit_zero (Elt F) cc0_stg1_0 hz2 _ f
theorem ld_id (f : (cc0_stg2_0 : Ref sig .tc).ty.Contents (Elt F)) :
    idM.view.readAt (Elt F) (Rect.unit (s := S512x1) ![0, 0] S512x1.size inb_S512x1_S512x1_0_0).toLoadRect f = f :=
  Memref.readAt_unit_zero (Elt F) cc0_stg2_0 hz2 _ f
theorem ld_ew (f : (cc0_stg3_0 : Ref sig .tc).ty.Contents (Elt F)) :
    ewM.view.readAt (Elt F) (Rect.unit (s := S4x256x512) ![0, 0, 0] S4x256x512.size inb_S4x256x512_S4x256x512_0_0_0).toLoadRect f = f :=
  Memref.readAt_unit_zero (Elt F) cc0_stg3_0 hz3 _ f
theorem ld_sw (f : (cc0_stg4_0 : Ref sig .tc).ty.Contents (Elt F)) :
    swM.view.readAt (Elt F) (Rect.unit (s := S256x512) ![0, 0] S256x512.size inb_S256x512_S256x512_0_0).toLoadRect f = f :=
  Memref.readAt_unit_zero (Elt F) cc0_stg4_0 hz2 _ f
theorem ld_o (f : (cc0_stg5_0 : Ref sig .tc).ty.Contents (Elt F)) :
    oM.view.readAt (Elt F) (Rect.unit (s := S512x512) ![0, 0] S512x512.size inb_S512x512_S512x512_0_0).toLoadRect f = f :=
  Memref.readAt_unit_zero (Elt F) cc0_stg5_0 hz2 _ f
theorem st_o (f w : (cc0_stg5_0 : Ref sig .tc).ty.Contents (Elt F)) :
    (oM.access (Rect.unit (s := S512x512) ![0, 0] S512x512.size inb_S512x512_S512x512_0_0) : View sig .tc _ _ _).write (Elt F) f w Finset.univ = w :=
  Memref.write_access_unit_zero_univ (Elt F) cc0_stg5_0 hz2 _ f w
theorem ld_c0 (f : (cc0_scratch2 : Ref sig .tc).ty.Contents (Elt F)) :
    c0M.view.readAt (Elt F) (Rect.unit (s := S2x256x512) ![0, 0, 0] S2x256x512.size inb_S2x256x512_S2x256x512_0_0_0).toLoadRect f = f :=
  Memref.readAt_unit_zero (Elt F) cc0_scratch2 hz3 _ f
theorem ld_c1 (f : (cc0_scratch3 : Ref sig .tc).ty.Contents (Elt F)) :
    c1M.view.readAt (Elt F) (Rect.unit (s := S4x256x512) ![0, 0, 0] S4x256x512.size inb_S4x256x512_S4x256x512_0_0_0).toLoadRect f = f :=
  Memref.readAt_unit_zero (Elt F) cc0_scratch3 hz3 _ f
theorem ld_c2 (f : (cc0_scratch4 : Ref sig .tc).ty.Contents (Elt F)) :
    c2M.view.readAt (Elt F) (Rect.unit (s := S2x256x512) ![0, 0, 0] S2x256x512.size inb_S2x256x512_S2x256x512_0_0_0).toLoadRect f = f :=
  Memref.readAt_unit_zero (Elt F) cc0_scratch4 hz3 _ f

theorem wholeOn (b : Ref sig .tc) (R : Finset b.ty.shape.Idx) : ((Memref.whole b).view : View sig .tc _ _ _).setOn R = R := by
  ext i
  show i ∈ R.map _ ↔ _
  rw [Finset.mem_map]
  exact ⟨fun ⟨x, hx, h⟩ => h ▸ hx, fun h => ⟨i, h, rfl⟩⟩
theorem on_fw1 : fwM.view.setOn R1.toLoadRect.set ⊆ (slot1 fwM).view.set := by rw [fw1_set]; exact subset_of_eq (wholeOn _ _)
theorem on_fw2 : fwM.view.setOn R2.toLoadRect.set ⊆ (slot2 fwM).view.set := by rw [fw2_set]; exact subset_of_eq (wholeOn _ _)
theorem on_fw3a : fwM.view.setOn R3a.toLoadRect.set ⊆ (slot3a fwM).view.set := by rw [fw3a_set]; exact subset_of_eq (wholeOn _ _)
theorem on_bw1 : bwM.view.setOn R1.toLoadRect.set ⊆ (slot1 bwM).view.set := by rw [bw1_set]; exact subset_of_eq (wholeOn _ _)
theorem on_bw2 : bwM.view.setOn R2.toLoadRect.set ⊆ (slot2 bwM).view.set := by rw [bw2_set]; exact subset_of_eq (wholeOn _ _)
theorem on_bw3a : bwM.view.setOn R3a.toLoadRect.set ⊆ (slot3a bwM).view.set := by rw [bw3a_set]; exact subset_of_eq (wholeOn _ _)
theorem on_o : (oM.access (Rect.unit (s := S512x512) ![0, 0] S512x512.size inb_S512x512_S512x512_0_0)).setOn Finset.univ ⊆ oM.view.set := by
  rw [show oM.view.set = Finset.univ from View.set_whole _]; exact Finset.subset_univ _
end Access

section Parts
variable (W : Dev nD → (cc0_stg3_0 : Ref sig .tc).ty.Contents (Elt F)) (K : Dev nD × Fin 19 → ℕ) (c : Dev nD)

/-- What the kernel loads of the slots of the two ring buffers. -/
abbrev lf1 : Vec F S1x4x256x512 .bf16 := fwM.view.readAt (Elt F) R1.toLoadRect (FW W c)
abbrev lf2 : Vec F S1x4x256x512 .bf16 := fwM.view.readAt (Elt F) R2.toLoadRect (FW W c)
abbrev lf3 : Vec F S1x2x256x512 .bf16 := fwM.view.readAt (Elt F) R3a.toLoadRect (FW W c)
abbrev lb1 : Vec F S1x4x256x512 .bf16 := bwM.view.readAt (Elt F) R1.toLoadRect (BW W c)
abbrev lb2 : Vec F S1x4x256x512 .bf16 := bwM.view.readAt (Elt F) R2.toLoadRect (BW W c)
abbrev lb3 : Vec F S1x2x256x512 .bf16 := bwM.view.readAt (Elt F) R3a.toLoadRect (BW W c)

/-- The third part: the first transfer to the partner, and the loads of the inputs. -/
theorem wp_part3 (x : (cc0_stg0_0 : Ref sig .tc).ty.Contents (Elt F)) (rw : (cc0_stg1_0 : Ref sig .tc).ty.Contents (Elt F)) (id : (cc0_stg2_0 : Ref sig .tc).ty.Contents (Elt F)) (sw : (cc0_stg4_0 : Ref sig .tc).ty.Contents (Elt F)) (v2 : BitVec 32) (Q : _ → sProp 𝕄) :
    iprop(xferG W K c 6 ∗ pts c ewB qRL (W c) ∗ room (partner c) (c0M) ∗ own c (Odue Sq2 c) ∗ pts c xM fullShare x ∗ pts c rwM fullShare rw ∗ pts c idM fullShare id ∗ pts c swM fullShare sw)
      ⊢ iprop(((crS c 6 ∗ own c (Odue Sq3 c) ∗ pts c xM fullShare x ∗ pts c rwM fullShare rw ∗ pts c idM fullShare id ∗ pts c swM fullShare sw) -∗ Q ⟨k0_pay2 x, k0_pay3 id, k0_pay4 x rw id, k0_pay5 x sw, Scalar.addi (Scalar.muli v2 4#32) 0#32, k0_pay6 v2 x rw id⟩)
          -∗ wpc c (k0_part3 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 c v2) Q) := by
  rw [k0_part3_eq_skeleton]; unfold k0_part3_skel
  simp only [Prog.lift, Prog.bind_op, Prog.bind_ret, Prog.pure_eq_ret]
  iintro ⟨Hx6, Hs6, Hd6, HO, Hx, Hrw, Hid, Hsw⟩ Hk
  unfold room
  icases Hd6 with ⟨%d6, Hd6⟩
  iapply (wp_xfer W K c 6 Sq2 (by decide) (src := ewB) (dst := c0M) _ (dev6_eq c) ss6 rs6 ss6_eq rs6_eq rfl qRL (W c) d6 (Entails.refl _) (land_6 W c d6)) $$ [Hx6 Hs6 Hd6 HO]
  · isplitl [Hx6]; · iexact Hx6
    isplitl [Hs6]; · iexact Hs6
    isplitl [Hd6]; · iexact Hd6
    iexact HO
  iintro ⟨Hc6, HO⟩
  iapply (wp_load 𝒱₀ (c : Thread nD τ) none Set.univ (m := xM) (View.setOn_subset_set _ _)) $$ Hx; iintro Hx
  rw [ld_x]
  iapply (wp_load 𝒱₀ (c : Thread nD τ) none Set.univ (m := rwM) (View.setOn_subset_set _ _)) $$ Hrw; iintro Hrw
  rw [ld_rw]
  iapply (wp_load 𝒱₀ (c : Thread nD τ) none Set.univ (m := idM) (View.setOn_subset_set _ _)) $$ Hid; iintro Hid
  rw [ld_id]
  iapply (wp_load 𝒱₀ (c : Thread nD τ) none Set.univ (m := swM) (View.setOn_subset_set _ _)) $$ Hsw; iintro Hsw
  rw [ld_sw]
  iapply (le_wp_ret _ _ _ _ _)
  iapply Hk
  isplitl [Hc6]; · iexact Hc6
  isplitl [HO]; · iexact HO
  isplitl [Hx]; · iexact Hx
  isplitl [Hrw]; · iexact Hrw
  isplitl [Hid]; · iexact Hid
  iexact Hsw

/-- The fourth: the contribution of the own experts, and the wait for transfer zero to have been read. -/
theorem wp_part4 (v61 : FVec F S512x256 .bf16) (v75 : IVec S512x1 32) (v82 : FVec F S512x1 .f32) (v85 : FVec F S512x512 .f32) (v87 : BitVec 32) (v95 : FVec F S512x256 .f32) (o : (cc0_stg5_0 : Ref sig .tc).ty.Contents (Elt F)) (Q : _ → sProp 𝕄) :
    iprop(pts c ewM qRR (W c) ∗ pts c oM fullShare o ∗ outG W K c 0 ∗ crS c 0 ∗ own c (Odue Sq3 c) ∗ levAts L lv)
      ⊢ iprop(((pts c ewM qRR (W c) ∗ pts c oM fullShare (k0_pay7 v61 v75 v82 v85 v87 v95 (W c)) ∗ sendPay W c 0 ∗ semVal (sendCell c 0) 0 ∗ own c (Odue Sq3 c)) -∗ Q ⟨⟩)
          -∗ wpc c (k0_part4 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v61 v75 v82 v85 v87 v95) Q) := by
  rw [k0_part4_eq_skeleton]; unfold k0_part4_skel
  simp only [Prog.lift, Prog.bind_op, Prog.bind_ret, Prog.pure_eq_ret]
  iintro ⟨Hew, Ho, Hw0, Hc0, HO, #Hlev⟩ Hk
  iapply (wp_load 𝒱₀ (c : Thread nD τ) none Set.univ (m := ewM) (View.setOn_subset_set _ _)) $$ Hew; iintro Hew
  rw [ld_ew]
  iapply (wp_load 𝒱₀ (c : Thread nD τ) none Set.univ (m := oM) (View.setOn_subset_set _ _)) $$ Ho; iintro Ho
  iapply (wp_store 𝒱₀ (c : Thread nD τ) none Set.univ (m := oM) (r := Rect.unit (s := S512x512) ![0, 0] S512x512.size inb_S512x512_S512x512_0_0) (Mk := Finset.univ) on_o) $$ Ho; iintro Ho
  rw [st_o]
  iapply (wp_out W K c 0 Sq3 (src := slot1 fwM) (dst := ewM) ss0 ss0_eq rfl) $$ [Hw0 Hc0 HO]
  · isplitl [Hw0]; · iexact Hw0
    isplitl [Hc0]; · iexact Hc0
    isplitl [HO]; · iexact HO
    iexact Hlev
  iintro ⟨Hp0, Hz0, HO⟩
  iapply (le_wp_ret _ _ _ _ _)
  iapply Hk
  isplitl [Hew]; · iexact Hew
  isplitl [Ho]; · iexact Ho
  isplitl [Hp0]; · iexact Hp0
  isplitl [Hz0]; · iexact Hz0
  iexact HO

/-- The fifth: the first arrivals from the two sides. -/
theorem wp_part5 (v13 v19 : BitVec 32) (Q : _ → sProp 𝕄) :
    iprop(inG W K c 0 ∗ crR c 0 ∗ outG W K c 3 ∗ crS c 3 ∗ inG W K c 3 ∗ crR c 3 ∗ own c (Odue Sq3 c) ∗ levAts L lv)
      ⊢ iprop(((recvPay W c 0 ∗ semVal (recvCell c 0) 0 ∗ sendPay W c 3 ∗ semVal (sendCell c 3) 0 ∗ recvPay W c 3 ∗ semVal (recvCell c 3) 0 ∗ own c (Odue Sq3 c)) -∗ Q ⟨⟩)
          -∗ wpc c (k0_part5 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v13 v19) Q) := by
  rw [k0_part5_eq_skeleton]; unfold k0_part5_skel
  simp only [Prog.lift, Prog.bind_op, Prog.bind_ret, Prog.pure_eq_ret]
  iintro ⟨Hv0, Hr0, Hw3, Hc3, Hv3, Hr3, HO, #Hlev⟩ Hk
  iapply (wp_in W K c 0 Sq3 (by decide) (src := ewM) (dst := slot1 fwM) rs0 rs0_eq rfl) $$ [Hv0 Hr0 HO]
  · isplitl [Hv0]; · iexact Hv0
    isplitl [Hr0]; · iexact Hr0
    isplitl [HO]; · iexact HO
    iexact Hlev
  iintro ⟨Hq0, Hy0, HO⟩
  iapply (wp_out W K c 3 Sq3 (src := slot1 bwM) (dst := ewM) ss3 ss3_eq rfl) $$ [Hw3 Hc3 HO]
  · isplitl [Hw3]; · iexact Hw3
    isplitl [Hc3]; · iexact Hc3
    isplitl [HO]; · iexact HO
    iexact Hlev
  iintro ⟨Hp3, Hz3, HO⟩
  iapply (wp_in W K c 3 Sq3 (by decide) (src := ewM) (dst := slot1 bwM) rs3 rs3_eq rfl) $$ [Hv3 Hr3 HO]
  · isplitl [Hv3]; · iexact Hv3
    isplitl [Hr3]; · iexact Hr3
    isplitl [HO]; · iexact HO
    iexact Hlev
  iintro ⟨Hq3, Hy3, HO⟩
  iapply (le_wp_ret _ _ _ _ _)
  iapply Hk
  isplitl [Hq0]; · iexact Hq0
  isplitl [Hy0]; · iexact Hy0
  isplitl [Hp3]; · iexact Hp3
  isplitl [Hz3]; · iexact Hz3
  isplitl [Hq3]; · iexact Hq3
  isplitl [Hy3]; · iexact Hy3
  iexact HO

/-- The sixth: the experts from either side go on, and to the partner; its first transfer arrives. -/
theorem wp_part6 (v19 : BitVec 32) (v21 : BitVec 1) (v29 : BitVec 32) (Q : _ → sProp 𝕄) :
    iprop(xferG W K c 1 ∗ pts c (slot1 fwM) qL (FW W c) ∗ room (right c) (slot2 fwM) ∗ xferG W K c 4 ∗ pts c (slot1 bwM) qL (BW W c) ∗ room (left c) (slot2 bwM) ∗ xferG W K c 7 ∗ c1Part W c qRL (ev c) ∗ room (partner c) (c1M) ∗ outG W K c 6 ∗ crS c 6 ∗ inG W K c 6 ∗ crR c 6 ∗ own c (Odue Sq3 c) ∗ levAts L lv)
      ⊢ iprop(((crS c 1 ∗ crS c 4 ∗ crS c 7 ∗ sendPay W c 6 ∗ semVal (sendCell c 6) 0 ∗ recvPay W c 6 ∗ semVal (recvCell c 6) 0 ∗ own c (Odue Sq6 c)) -∗ Q ⟨⟩)
          -∗ wpc c (k0_part6 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 c v19 v21 v29) Q) := by
  rw [k0_part6_eq_skeleton]; unfold k0_part6_skel
  simp only [Prog.lift, Prog.bind_op, Prog.bind_ret, Prog.pure_eq_ret]
  iintro ⟨Hx1, Hs1, Hd1, Hx4, Hs4, Hd4, Hx7, Hs7, Hd7, Hw6, Hc6, Hv6, Hr6, HO, #Hlev⟩ Hk
  unfold room
  icases Hd1 with ⟨%d1, Hd1⟩
  iapply (wp_xfer W K c 1 Sq3 (by decide) (src := slot1 fwM) (dst := slot2 fwM) _ (dev7_eq c) ss1 rs1 ss1_eq rs1_eq rfl qL (FW W c) d1 (Entails.refl _) (land_1 W c d1)) $$ [Hx1 Hs1 Hd1 HO]
  · isplitl [Hx1]; · iexact Hx1
    isplitl [Hs1]; · iexact Hs1
    isplitl [Hd1]; · iexact Hd1
    iexact HO
  iintro ⟨Hc1, HO⟩
  icases Hd4 with ⟨%d4, Hd4⟩
  iapply (wp_xfer W K c 4 Sq4 (by decide) (src := slot1 bwM) (dst := slot2 bwM) _ (dev8_eq c) ss4 rs4 ss4_eq rs4_eq rfl qL (BW W c) d4 (Entails.refl _) (land_4 W c d4)) $$ [Hx4 Hs4 Hd4 HO]
  · isplitl [Hx4]; · iexact Hx4
    isplitl [Hs4]; · iexact Hs4
    isplitl [Hd4]; · iexact Hd4
    iexact HO
  iintro ⟨Hc4, HO⟩
  icases Hd7 with ⟨%d7, Hd7⟩
  cases hev : ev c
  · have h1 : ¬ k0_cond1 c = 1#1 := fun h => by have := (cond1_iff c).mp h; rw [hev] at this; cases this
    have h2 : k0_cond2 c = 1#1 := (cond2_iff c).mpr hev
    rw [dif_neg h1]
    rw [dif_pos h2]
    simp only [Prog.bind_op, Prog.bind_ret]
    ihave Hs7' := (Entails.of_eq (show c1Part W c qRL false = pts c (slot1 bwM) qRL (BW W c) from by simp [c1Part])) $$ Hs7
    iapply (wp_xfer W K c 7 Sq5 (by decide) (src := slot1 bwM) (dst := c1M) _ (dev10_eq c h2) ss7 rs7 ss7_eq rs7_eq rfl qRL (BW W c) d7 (Entails.of_eq (show pts c (slot1 bwM) qRL (BW W c) = c1Part W c qRL (ev c) from by rw [hev]; simp [c1Part])) (land_7b W c hev d7)) $$ [Hx7 Hs7' Hd7 HO]
    · isplitl [Hx7]; · iexact Hx7
      isplitl [Hs7']; · iexact Hs7'
      isplitl [Hd7]; · iexact Hd7
      iexact HO
    iintro ⟨Hc7, HO⟩
    iapply (wp_out W K c 6 Sq6 (src := c0M) (dst := ewB) ss6 ss6_eq rfl) $$ [Hw6 Hc6 HO]
    · isplitl [Hw6]; · iexact Hw6
      isplitl [Hc6]; · iexact Hc6
      isplitl [HO]; · iexact HO
      iexact Hlev
    iintro ⟨Hp6, Hz6, HO⟩
    iapply (wp_in W K c 6 Sq6 (by decide) (src := ewB) (dst := c0M) rs6 rs6_eq rfl) $$ [Hv6 Hr6 HO]
    · isplitl [Hv6]; · iexact Hv6
      isplitl [Hr6]; · iexact Hr6
      isplitl [HO]; · iexact HO
      iexact Hlev
    iintro ⟨Hq6, Hy6, HO⟩
    iapply (le_wp_ret _ _ _ _ _)
    iapply Hk
    isplitl [Hc1]; · iexact Hc1
    isplitl [Hc4]; · iexact Hc4
    isplitl [Hc7]; · iexact Hc7
    isplitl [Hp6]; · iexact Hp6
    isplitl [Hz6]; · iexact Hz6
    isplitl [Hq6]; · iexact Hq6
    isplitl [Hy6]; · iexact Hy6
    iexact HO
  · have h1 : k0_cond1 c = 1#1 := (cond1_iff c).mpr hev
    have h2 : ¬ k0_cond2 c = 1#1 := fun h => by have := (cond2_iff c).mp h; rw [hev] at this; cases this
    rw [dif_pos h1]
    rw [dif_neg h2]
    simp only [Prog.bind_op, Prog.bind_ret]
    ihave Hs7' := (Entails.of_eq (show c1Part W c qRL true = pts c (slot1 fwM) qRL (FW W c) from by simp [c1Part])) $$ Hs7
    iapply (wp_xfer W K c 7 Sq5 (by decide) (src := slot1 fwM) (dst := c1M) _ (dev9_eq c h1) ss7 rs7 ss7_eq rs7_eq rfl qRL (FW W c) d7 (Entails.of_eq (show pts c (slot1 fwM) qRL (FW W c) = c1Part W c qRL (ev c) from by rw [hev]; simp [c1Part])) (land_7f W c hev d7)) $$ [Hx7 Hs7' Hd7 HO]
    · isplitl [Hx7]; · iexact Hx7
      isplitl [Hs7']; · iexact Hs7'
      isplitl [Hd7]; · iexact Hd7
      iexact HO
    iintro ⟨Hc7, HO⟩
    iapply (wp_out W K c 6 Sq6 (src := c0M) (dst := ewB) ss6 ss6_eq rfl) $$ [Hw6 Hc6 HO]
    · isplitl [Hw6]; · iexact Hw6
      isplitl [Hc6]; · iexact Hc6
      isplitl [HO]; · iexact HO
      iexact Hlev
    iintro ⟨Hp6, Hz6, HO⟩
    iapply (wp_in W K c 6 Sq6 (by decide) (src := ewB) (dst := c0M) rs6 rs6_eq rfl) $$ [Hv6 Hr6 HO]
    · isplitl [Hv6]; · iexact Hv6
      isplitl [Hr6]; · iexact Hr6
      isplitl [HO]; · iexact HO
      iexact Hlev
    iintro ⟨Hq6, Hy6, HO⟩
    iapply (le_wp_ret _ _ _ _ _)
    iapply Hk
    isplitl [Hc1]; · iexact Hc1
    isplitl [Hc4]; · iexact Hc4
    isplitl [Hc7]; · iexact Hc7
    isplitl [Hp6]; · iexact Hp6
    isplitl [Hz6]; · iexact Hz6
    isplitl [Hq6]; · iexact Hq6
    isplitl [Hy6]; · iexact Hy6
    iexact HO

/-- The seventh: the partial sum is read. -/
theorem wp_part7 (v7 : BitVec 32) (v61 : FVec F S512x256 .bf16) (v75 : IVec S512x1 32) (v82 : FVec F S512x1 .f32) (o : (cc0_stg5_0 : Ref sig .tc).ty.Contents (Elt F)) (Q : _ → sProp 𝕄) :
    iprop(pts c oM fullShare o)
      ⊢ iprop(((pts c oM fullShare o) -∗ Q ⟨k0_pay8 o, k0_pay9 v7 v61 v75 v82⟩)
          -∗ wpc c (k0_part7 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v7 v61 v75 v82) Q) := by
  rw [k0_part7_eq_skeleton]; unfold k0_part7_skel
  simp only [Prog.lift, Prog.bind_op, Prog.bind_ret, Prog.pure_eq_ret]
  iintro Ho Hk
  iapply (wp_load 𝒱₀ (c : Thread nD τ) none Set.univ (m := oM) (View.setOn_subset_set _ _)) $$ Ho; iintro Ho
  rw [ld_o]
  iapply (le_wp_ret _ _ _ _ _)
  iapply Hk
  iexact Ho

/-- The eighth: the experts from the left are read. -/
theorem wp_part8 (v7 : BitVec 32) (v61 : FVec F S512x256 .bf16) (v75 : IVec S512x1 32) (v82 : FVec F S512x1 .f32) (v182 : FVec F S512x512 .f32) (v224 : FVec F S512x1024 .bf16) (Q : _ → sProp 𝕄) :
    iprop(pts c (slot1 fwM) qRR (FW W c))
      ⊢ iprop(((pts c (slot1 fwM) qRR (FW W c)) -∗ Q ⟨k0_pay10 v182 v224 (lf1 W c), k0_pay11 v7 v61 v75 v82, k0_pay12 v7 v61 v75 v82, k0_pay13 v7 v61 v75 v82, k0_pay14 v7 v75, k0_pay15 (F := F)⟩)
          -∗ wpc c (k0_part8 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v7 v61 v75 v82 v182 v224) Q) := by
  rw [k0_part8_eq_skeleton]; unfold k0_part8_skel
  simp only [Prog.lift, Prog.bind_op, Prog.bind_ret, Prog.pure_eq_ret]
  iintro Hf1 Hk
  iapply (wp_load 𝒱₀ (c : Thread nD τ) none Set.univ (m := fwM) on_fw1) $$ Hf1; iintro Hf1
  iapply (le_wp_ret _ _ _ _ _)
  iapply Hk
  iexact Hf1

/-- The ninth: those from the right, and the first from the partner. -/
theorem wp_part9 (v7 : BitVec 32) (v21 : BitVec 1) (v61 : FVec F S512x256 .bf16) (v75 : IVec S512x1 32) (v82 : FVec F S512x1 .f32) (v229 : FVec F S512x512 .f32) (v245 v253 v261 : FVec F S512x256 .f32) (v264 : IVec S512x1 1) (v265 : FVec F S512x1 .f32) (Q : _ → sProp 𝕄) :
    iprop(pts c (slot1 bwM) qRR (BW W c) ∗ pts c c0M fullShare (CR0 W c))
      ⊢ iprop(((pts c (slot1 bwM) qRR (BW W c) ∗ pts c c0M fullShare (CR0 W c)) -∗ Q ⟨k0_pay16 v61 v82 v229 v245 v253 v261 v264 v265 (lb1 W c), k0_pay17 v7 v21 v61 v75 v82, CR0 W c⟩)
          -∗ wpc c (k0_part9 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v7 v21 v61 v75 v82 v229 v245 v253 v261 v264 v265) Q) := by
  rw [k0_part9_eq_skeleton]; unfold k0_part9_skel
  simp only [Prog.lift, Prog.bind_op, Prog.bind_ret, Prog.pure_eq_ret]
  iintro ⟨Hb1, Hk0⟩ Hk
  iapply (wp_load 𝒱₀ (c : Thread nD τ) none Set.univ (m := bwM) on_bw1) $$ Hb1; iintro Hb1
  iapply (wp_load 𝒱₀ (c : Thread nD τ) none Set.univ (m := c0M) (View.setOn_subset_set _ _)) $$ Hk0; iintro Hk0
  rw [ld_c0]
  iapply (le_wp_ret _ _ _ _ _)
  iapply Hk
  isplitl [Hb1]; · iexact Hb1
  iexact Hk0

/-- The tenth: the partial sum is stored; the second arrival from the left. -/
theorem wp_part10 (v13 : BitVec 32) (v276 : FVec F S512x512 .f32) (v304 : FVec F S512x512 .bf16) (v305 : Vec F S2x256x512 .bf16) (o : (cc0_stg5_0 : Ref sig .tc).ty.Contents (Elt F)) (Q : _ → sProp 𝕄) :
    iprop(pts c oM fullShare o ∗ outG W K c 1 ∗ crS c 1 ∗ inG W K c 1 ∗ crR c 1 ∗ own c (Odue Sq6 c) ∗ levAts L lv)
      ⊢ iprop(((pts c oM fullShare (k0_pay18 v276 v304 v305) ∗ sendPay W c 1 ∗ semVal (sendCell c 1) 0 ∗ recvPay W c 1 ∗ semVal (recvCell c 1) 0 ∗ own c (Odue Sq6 c)) -∗ Q ⟨⟩)
          -∗ wpc c (k0_part10 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v13 v276 v304 v305) Q) := by
  rw [k0_part10_eq_skeleton]; unfold k0_part10_skel
  simp only [Prog.lift, Prog.bind_op, Prog.bind_ret, Prog.pure_eq_ret]
  iintro ⟨Ho, Hw1, Hc1, Hv1, Hr1, HO, #Hlev⟩ Hk
  iapply (wp_load 𝒱₀ (c : Thread nD τ) none Set.univ (m := oM) (View.setOn_subset_set _ _)) $$ Ho; iintro Ho
  iapply (wp_store 𝒱₀ (c : Thread nD τ) none Set.univ (m := oM) (r := Rect.unit (s := S512x512) ![0, 0] S512x512.size inb_S512x512_S512x512_0_0) (Mk := Finset.univ) on_o) $$ Ho; iintro Ho
  rw [st_o]
  iapply (wp_out W K c 1 Sq6 (src := slot2 fwM) (dst := slot1 fwM) ss1 ss1_eq rfl) $$ [Hw1 Hc1 HO]
  · isplitl [Hw1]; · iexact Hw1
    isplitl [Hc1]; · iexact Hc1
    isplitl [HO]; · iexact HO
    iexact Hlev
  iintro ⟨Hp1, Hz1, HO⟩
  iapply (wp_in W K c 1 Sq6 (by decide) (src := slot1 fwM) (dst := slot2 fwM) rs1 rs1_eq rfl) $$ [Hv1 Hr1 HO]
  · isplitl [Hv1]; · iexact Hv1
    isplitl [Hr1]; · iexact Hr1
    isplitl [HO]; · iexact HO
    iexact Hlev
  iintro ⟨Hq1, Hy1, HO⟩
  iapply (le_wp_ret _ _ _ _ _)
  iapply Hk
  isplitl [Ho]; · iexact Ho
  isplitl [Hp1]; · iexact Hp1
  isplitl [Hz1]; · iexact Hz1
  isplitl [Hq1]; · iexact Hq1
  isplitl [Hy1]; · iexact Hy1
  iexact HO

/-- The eleventh: the second arrival from the right; the third transfer to the right. -/
theorem wp_part11 (v13 v19 : BitVec 32) (Q : _ → sProp 𝕄) :
    iprop(outG W K c 4 ∗ crS c 4 ∗ inG W K c 4 ∗ crR c 4 ∗ xferG W K c 2 ∗ pts c (slot2a fwM) qL (FW W c) ∗ room (right c) (slot3a fwM) ∗ own c (Odue Sq6 c) ∗ levAts L lv)
      ⊢ iprop(((sendPay W c 4 ∗ semVal (sendCell c 4) 0 ∗ recvPay W c 4 ∗ semVal (recvCell c 4) 0 ∗ crS c 2 ∗ own c (Odue Sq7 c)) -∗ Q ⟨⟩)
          -∗ wpc c (k0_part11 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 c v13 v19) Q) := by
  rw [k0_part11_eq_skeleton]; unfold k0_part11_skel
  simp only [Prog.lift, Prog.bind_op, Prog.bind_ret, Prog.pure_eq_ret]
  iintro ⟨Hw4, Hc4, Hv4, Hr4, Hx2, Hs2, Hd2, HO, #Hlev⟩ Hk
  unfold room
  iapply (wp_out W K c 4 Sq6 (src := slot2 bwM) (dst := slot1 bwM) ss4 ss4_eq rfl) $$ [Hw4 Hc4 HO]
  · isplitl [Hw4]; · iexact Hw4
    isplitl [Hc4]; · iexact Hc4
    isplitl [HO]; · iexact HO
    iexact Hlev
  iintro ⟨Hp4, Hz4, HO⟩
  iapply (wp_in W K c 4 Sq6 (by decide) (src := slot1 bwM) (dst := slot2 bwM) rs4 rs4_eq rfl) $$ [Hv4 Hr4 HO]
  · isplitl [Hv4]; · iexact Hv4
    isplitl [Hr4]; · iexact Hr4
    isplitl [HO]; · iexact HO
    iexact Hlev
  iintro ⟨Hq4, Hy4, HO⟩
  icases Hd2 with ⟨%d2, Hd2⟩
  iapply (wp_xfer W K c 2 Sq6 (by decide) (src := slot2a fwM) (dst := slot3a fwM) _ (dev11_eq c) ss2 rs2 ss2_eq rs2_eq rfl qL (FW W c) d2 (Entails.refl _) (land_2 W c d2)) $$ [Hx2 Hs2 Hd2 HO]
  · isplitl [Hx2]; · iexact Hx2
    isplitl [Hs2]; · iexact Hs2
    isplitl [Hd2]; · iexact Hd2
    iexact HO
  iintro ⟨Hc2, HO⟩
  iapply (le_wp_ret _ _ _ _ _)
  iapply Hk
  isplitl [Hp4]; · iexact Hp4
  isplitl [Hz4]; · iexact Hz4
  isplitl [Hq4]; · iexact Hq4
  isplitl [Hy4]; · iexact Hy4
  isplitl [Hc2]; · iexact Hc2
  iexact HO

/-- The twelfth: the last transfers go out; the second from the partner arrives. -/
theorem wp_part12 (v7 : BitVec 32) (v21 : BitVec 1) (v29 : BitVec 32) (o : (cc0_stg5_0 : Ref sig .tc).ty.Contents (Elt F)) (Q : _ → sProp 𝕄) :
    iprop(xferG W K c 5 ∗ pts c (slot2a bwM) qL (BW W c) ∗ room (left c) (slot3a bwM) ∗ xferG W K c 8 ∗ c2Part W c qL (ev c) ∗ room (partner c) (c2M) ∗ outG W K c 7 ∗ crS c 7 ∗ inG W K c 7 ∗ crR c 7 ∗ pts c oM fullShare o ∗ own c (Odue Sq7 c) ∗ levAts L lv)
      ⊢ iprop(((crS c 5 ∗ crS c 8 ∗ sendPay W c 7 ∗ semVal (sendCell c 7) 0 ∗ recvPay W c 7 ∗ semVal (recvCell c 7) 0 ∗ pts c oM fullShare o ∗ own c (Odue Sq9 c)) -∗ Q ⟨k0_pay19 o, Scalar.remsi (Scalar.addi (Scalar.subi v7 2#32) 16#32) 8#32, 4#32⟩)
          -∗ wpc c (k0_part12 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 c v7 v21 v29) Q) := by
  rw [k0_part12_eq_skeleton]; unfold k0_part12_skel
  simp only [Prog.lift, Prog.bind_op, Prog.bind_ret, Prog.pure_eq_ret]
  iintro ⟨Hx5, Hs5, Hd5, Hx8, Hs8, Hd8, Hw7, Hc7, Hv7, Hr7, Ho, HO, #Hlev⟩ Hk
  unfold room
  icases Hd5 with ⟨%d5, Hd5⟩
  iapply (wp_xfer W K c 5 Sq7 (by decide) (src := slot2a bwM) (dst := slot3a bwM) _ (dev12_eq c) ss5 rs5 ss5_eq rs5_eq rfl qL (BW W c) d5 (Entails.refl _) (land_5 W c d5)) $$ [Hx5 Hs5 Hd5 HO]
  · isplitl [Hx5]; · iexact Hx5
    isplitl [Hs5]; · iexact Hs5
    isplitl [Hd5]; · iexact Hd5
    iexact HO
  iintro ⟨Hc5, HO⟩
  icases Hd8 with ⟨%d8, Hd8⟩
  cases hev : ev c
  · have h1 : ¬ k0_cond3 c = 1#1 := fun h => by have := (cond3_iff c).mp h; rw [hev] at this; cases this
    have h2 : k0_cond4 c = 1#1 := (cond4_iff c).mpr hev
    rw [dif_neg h1]
    rw [dif_pos h2]
    simp only [Prog.bind_op, Prog.bind_ret]
    ihave Hs8' := (Entails.of_eq (show c2Part W c qL false = pts c (slot2b bwM) qL (BW W c) from by simp [c2Part])) $$ Hs8
    iapply (wp_xfer W K c 8 Sq8 (by decide) (src := slot2b bwM) (dst := c2M) _ (dev14_eq c h2) ss8 rs8 ss8_eq rs8_eq rfl qL (BW W c) d8 (Entails.of_eq (show pts c (slot2b bwM) qL (BW W c) = c2Part W c qL (ev c) from by rw [hev]; simp [c2Part])) (land_8b W c hev d8)) $$ [Hx8 Hs8' Hd8 HO]
    · isplitl [Hx8]; · iexact Hx8
      isplitl [Hs8']; · iexact Hs8'
      isplitl [Hd8]; · iexact Hd8
      iexact HO
    iintro ⟨Hc8, HO⟩
    iapply (wp_out W K c 7 Sq9 (src := c1M) (dst := slot1 fwM) ss7 ss7_eq rfl) $$ [Hw7 Hc7 HO]
    · isplitl [Hw7]; · iexact Hw7
      isplitl [Hc7]; · iexact Hc7
      isplitl [HO]; · iexact HO
      iexact Hlev
    iintro ⟨Hp7, Hz7, HO⟩
    iapply (wp_in W K c 7 Sq9 (by decide) (src := slot1 fwM) (dst := c1M) rs7 rs7_eq rfl) $$ [Hv7 Hr7 HO]
    · isplitl [Hv7]; · iexact Hv7
      isplitl [Hr7]; · iexact Hr7
      isplitl [HO]; · iexact HO
      iexact Hlev
    iintro ⟨Hq7, Hy7, HO⟩
    iapply (wp_load 𝒱₀ (c : Thread nD τ) none Set.univ (m := oM) (View.setOn_subset_set _ _)) $$ Ho; iintro Ho
    rw [ld_o]
    iapply (le_wp_ret _ _ _ _ _)
    iapply Hk
    isplitl [Hc5]; · iexact Hc5
    isplitl [Hc8]; · iexact Hc8
    isplitl [Hp7]; · iexact Hp7
    isplitl [Hz7]; · iexact Hz7
    isplitl [Hq7]; · iexact Hq7
    isplitl [Hy7]; · iexact Hy7
    isplitl [Ho]; · iexact Ho
    iexact HO
  · have h1 : k0_cond3 c = 1#1 := (cond3_iff c).mpr hev
    have h2 : ¬ k0_cond4 c = 1#1 := fun h => by have := (cond4_iff c).mp h; rw [hev] at this; cases this
    rw [dif_pos h1]
    rw [dif_neg h2]
    simp only [Prog.bind_op, Prog.bind_ret]
    ihave Hs8' := (Entails.of_eq (show c2Part W c qL true = pts c (slot2b fwM) qL (FW W c) from by simp [c2Part])) $$ Hs8
    iapply (wp_xfer W K c 8 Sq8 (by decide) (src := slot2b fwM) (dst := c2M) _ (dev13_eq c h1) ss8 rs8 ss8_eq rs8_eq rfl qL (FW W c) d8 (Entails.of_eq (show pts c (slot2b fwM) qL (FW W c) = c2Part W c qL (ev c) from by rw [hev]; simp [c2Part])) (land_8f W c hev d8)) $$ [Hx8 Hs8' Hd8 HO]
    · isplitl [Hx8]; · iexact Hx8
      isplitl [Hs8']; · iexact Hs8'
      isplitl [Hd8]; · iexact Hd8
      iexact HO
    iintro ⟨Hc8, HO⟩
    iapply (wp_out W K c 7 Sq9 (src := c1M) (dst := slot1 fwM) ss7 ss7_eq rfl) $$ [Hw7 Hc7 HO]
    · isplitl [Hw7]; · iexact Hw7
      isplitl [Hc7]; · iexact Hc7
      isplitl [HO]; · iexact HO
      iexact Hlev
    iintro ⟨Hp7, Hz7, HO⟩
    iapply (wp_in W K c 7 Sq9 (by decide) (src := slot1 fwM) (dst := c1M) rs7 rs7_eq rfl) $$ [Hv7 Hr7 HO]
    · isplitl [Hv7]; · iexact Hv7
      isplitl [Hr7]; · iexact Hr7
      isplitl [HO]; · iexact HO
      iexact Hlev
    iintro ⟨Hq7, Hy7, HO⟩
    iapply (wp_load 𝒱₀ (c : Thread nD τ) none Set.univ (m := oM) (View.setOn_subset_set _ _)) $$ Ho; iintro Ho
    rw [ld_o]
    iapply (le_wp_ret _ _ _ _ _)
    iapply Hk
    isplitl [Hc5]; · iexact Hc5
    isplitl [Hc8]; · iexact Hc8
    isplitl [Hp7]; · iexact Hp7
    isplitl [Hz7]; · iexact Hz7
    isplitl [Hq7]; · iexact Hq7
    isplitl [Hy7]; · iexact Hy7
    isplitl [Ho]; · iexact Ho
    iexact HO

/-- The thirteenth: the second experts from the left are read. -/
theorem wp_part13 (v61 : FVec F S512x256 .bf16) (v75 : IVec S512x1 32) (v82 : FVec F S512x1 .f32) (v374 : FVec F S512x512 .f32) (v377 c4 : BitVec 32) (Q : _ → sProp 𝕄) :
    iprop(pts c (slot2 fwM) qR (FW W c))
      ⊢ iprop(((pts c (slot2 fwM) qR (FW W c)) -∗ Q (k0_pay20 v61 v75 v82 v374 v377 c4 (lf2 W c)))
          -∗ wpc c (k0_part13 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v61 v75 v82 v374 v377 c4) Q) := by
  rw [k0_part13_eq_skeleton]; unfold k0_part13_skel
  simp only [Prog.lift, Prog.bind_op, Prog.bind_ret, Prog.pure_eq_ret]
  iintro Hf2 Hk
  iapply (wp_load 𝒱₀ (c : Thread nD τ) none Set.univ (m := fwM) on_fw2) $$ Hf2; iintro Hf2
  iapply (le_wp_ret _ _ _ _ _)
  iapply Hk
  iexact Hf2

/-- The fifteenth: the second from the right. -/
theorem wp_part15 (v7 : BitVec 32) (v61 : FVec F S512x256 .bf16) (v75 : IVec S512x1 32) (v82 : FVec F S512x1 .f32) (v421 : FVec F S512x512 .f32) (v463 : FVec F S512x1024 .bf16) (Q : _ → sProp 𝕄) :
    iprop(pts c (slot2 bwM) qR (BW W c))
      ⊢ iprop(((pts c (slot2 bwM) qR (BW W c)) -∗ Q ⟨k0_pay22 v421 v463 (lb2 W c), k0_pay23 v7 v61 v75 v82, k0_pay24 v7 v61 v75 v82, k0_pay25 v7 v61 v75 v82, k0_pay26 v7 v75 v82, k0_pay27 v61⟩)
          -∗ wpc c (k0_part15 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v7 v61 v75 v82 v421 v463) Q) := by
  rw [k0_part15_eq_skeleton]; unfold k0_part15_skel
  simp only [Prog.lift, Prog.bind_op, Prog.bind_ret, Prog.pure_eq_ret]
  iintro Hb2 Hk
  iapply (wp_load 𝒱₀ (c : Thread nD τ) none Set.univ (m := bwM) on_bw2) $$ Hb2; iintro Hb2
  iapply (le_wp_ret _ _ _ _ _)
  iapply Hk
  iexact Hb2

/-- The sixteenth: the second from the partner; the partial sum is stored; the third arrival from the left. -/
theorem wp_part16 (v13 : BitVec 32) (v468 : FVec F S512x512 .f32) (v484 v492 v500 : FVec F S512x256 .f32) (v505 : FVec F S512x1 .f32) (v506 : FVec F S512x256 .f32) (o : (cc0_stg5_0 : Ref sig .tc).ty.Contents (Elt F)) (Q : _ → sProp 𝕄) :
    iprop(pts c c1M fullShare (CR1 W c) ∗ pts c oM fullShare o ∗ outG W K c 2 ∗ crS c 2 ∗ inG W K c 2 ∗ crR c 2 ∗ own c (Odue Sq9 c) ∗ levAts L lv)
      ⊢ iprop(((pts c c1M fullShare (CR1 W c) ∗ pts c oM fullShare (k0_pay28 v468 v484 v492 v500 v505 v506 (CR1 W c)) ∗ sendPay W c 2 ∗ semVal (sendCell c 2) 0 ∗ recvPay W c 2 ∗ semVal (recvCell c 2) 0 ∗ own c (Odue Sq9 c)) -∗ Q ⟨⟩)
          -∗ wpc c (k0_part16 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v13 v468 v484 v492 v500 v505 v506) Q) := by
  rw [k0_part16_eq_skeleton]; unfold k0_part16_skel
  simp only [Prog.lift, Prog.bind_op, Prog.bind_ret, Prog.pure_eq_ret]
  iintro ⟨Hk1, Ho, Hw2, Hc2, Hv2, Hr2, HO, #Hlev⟩ Hk
  iapply (wp_load 𝒱₀ (c : Thread nD τ) none Set.univ (m := c1M) (View.setOn_subset_set _ _)) $$ Hk1; iintro Hk1
  rw [ld_c1]
  iapply (wp_load 𝒱₀ (c : Thread nD τ) none Set.univ (m := oM) (View.setOn_subset_set _ _)) $$ Ho; iintro Ho
  iapply (wp_store 𝒱₀ (c : Thread nD τ) none Set.univ (m := oM) (r := Rect.unit (s := S512x512) ![0, 0] S512x512.size inb_S512x512_S512x512_0_0) (Mk := Finset.univ) on_o) $$ Ho; iintro Ho
  rw [st_o]
  iapply (wp_out W K c 2 Sq9 (src := slot3a fwM) (dst := slot2a fwM) ss2 ss2_eq rfl) $$ [Hw2 Hc2 HO]
  · isplitl [Hw2]; · iexact Hw2
    isplitl [Hc2]; · iexact Hc2
    isplitl [HO]; · iexact HO
    iexact Hlev
  iintro ⟨Hp2, Hz2, HO⟩
  iapply (wp_in W K c 2 Sq9 (by decide) (src := slot2a fwM) (dst := slot3a fwM) rs2 rs2_eq rfl) $$ [Hv2 Hr2 HO]
  · isplitl [Hv2]; · iexact Hv2
    isplitl [Hr2]; · iexact Hr2
    isplitl [HO]; · iexact HO
    iexact Hlev
  iintro ⟨Hq2, Hy2, HO⟩
  iapply (le_wp_ret _ _ _ _ _)
  iapply Hk
  isplitl [Hk1]; · iexact Hk1
  isplitl [Ho]; · iexact Ho
  isplitl [Hp2]; · iexact Hp2
  isplitl [Hz2]; · iexact Hz2
  isplitl [Hq2]; · iexact Hq2
  isplitl [Hy2]; · iexact Hy2
  iexact HO

/-- The seventeenth: the third arrival from the right. -/
theorem wp_part17 (v19 v29 : BitVec 32) (Q : _ → sProp 𝕄) :
    iprop(outG W K c 5 ∗ crS c 5 ∗ inG W K c 5 ∗ crR c 5 ∗ outG W K c 8 ∗ crS c 8 ∗ own c (Odue Sq9 c) ∗ levAts L lv)
      ⊢ iprop(((sendPay W c 5 ∗ semVal (sendCell c 5) 0 ∗ recvPay W c 5 ∗ semVal (recvCell c 5) 0 ∗ sendPay W c 8 ∗ semVal (sendCell c 8) 0 ∗ own c (Odue Sq9 c)) -∗ Q ⟨⟩)
          -∗ wpc c (k0_part17 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v19 v29) Q) := by
  rw [k0_part17_eq_skeleton]; unfold k0_part17_skel
  simp only [Prog.lift, Prog.bind_op, Prog.bind_ret, Prog.pure_eq_ret]
  iintro ⟨Hw5, Hc5, Hv5, Hr5, Hw8, Hc8, HO, #Hlev⟩ Hk
  iapply (wp_out W K c 5 Sq9 (src := slot3a bwM) (dst := slot2a bwM) ss5 ss5_eq rfl) $$ [Hw5 Hc5 HO]
  · isplitl [Hw5]; · iexact Hw5
    isplitl [Hc5]; · iexact Hc5
    isplitl [HO]; · iexact HO
    iexact Hlev
  iintro ⟨Hp5, Hz5, HO⟩
  iapply (wp_in W K c 5 Sq9 (by decide) (src := slot2a bwM) (dst := slot3a bwM) rs5 rs5_eq rfl) $$ [Hv5 Hr5 HO]
  · isplitl [Hv5]; · iexact Hv5
    isplitl [Hr5]; · iexact Hr5
    isplitl [HO]; · iexact HO
    iexact Hlev
  iintro ⟨Hq5, Hy5, HO⟩
  iapply (wp_out W K c 8 Sq9 (src := c2M) (dst := slot2b fwM) ss8 ss8_eq rfl) $$ [Hw8 Hc8 HO]
  · isplitl [Hw8]; · iexact Hw8
    isplitl [Hc8]; · iexact Hc8
    isplitl [HO]; · iexact HO
    iexact Hlev
  iintro ⟨Hp8, Hz8, HO⟩
  iapply (le_wp_ret _ _ _ _ _)
  iapply Hk
  isplitl [Hp5]; · iexact Hp5
  isplitl [Hz5]; · iexact Hz5
  isplitl [Hq5]; · iexact Hq5
  isplitl [Hy5]; · iexact Hy5
  isplitl [Hp8]; · iexact Hp8
  isplitl [Hz8]; · iexact Hz8
  iexact HO

/-- The eighteenth: the last from the partner arrives; the third from the left is read. -/
theorem wp_part18 (v7 : BitVec 32) (v61 : FVec F S512x256 .bf16) (v75 : IVec S512x1 32) (v82 : FVec F S512x1 .f32) (o : (cc0_stg5_0 : Ref sig .tc).ty.Contents (Elt F)) (Q : _ → sProp 𝕄) :
    iprop(inG W K c 8 ∗ crR c 8 ∗ pts c oM fullShare o ∗ pts c (slot3a fwM) fullShare (FW W c) ∗ own c (Odue Sq9 c) ∗ levAts L lv)
      ⊢ iprop(((recvPay W c 8 ∗ semVal (recvCell c 8) 0 ∗ pts c oM fullShare o ∗ pts c (slot3a fwM) fullShare (FW W c) ∗ own c (Odue Sq9 c)) -∗ Q ⟨k0_pay29 v7 v61 v75 v82 o (lf3 W c), Scalar.remsi (Scalar.addi (Scalar.addi v7 3#32) 16#32) 8#32, Scalar.cmpi .slt (Scalar.remsi (Scalar.addi (Scalar.addi v7 3#32) 16#32) 8#32) 4#32⟩)
          -∗ wpc c (k0_part18 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v7 v61 v75 v82) Q) := by
  rw [k0_part18_eq_skeleton]; unfold k0_part18_skel
  simp only [Prog.lift, Prog.bind_op, Prog.bind_ret, Prog.pure_eq_ret]
  iintro ⟨Hv8, Hr8, Ho, Hf3, HO, #Hlev⟩ Hk
  iapply (wp_in W K c 8 Sq9 (by decide) (src := slot2b fwM) (dst := c2M) rs8 rs8_eq rfl) $$ [Hv8 Hr8 HO]
  · isplitl [Hv8]; · iexact Hv8
    isplitl [Hr8]; · iexact Hr8
    isplitl [HO]; · iexact HO
    iexact Hlev
  iintro ⟨Hq8, Hy8, HO⟩
  iapply (wp_load 𝒱₀ (c : Thread nD τ) none Set.univ (m := oM) (View.setOn_subset_set _ _)) $$ Ho; iintro Ho
  rw [ld_o]
  iapply (wp_load 𝒱₀ (c : Thread nD τ) none Set.univ (m := fwM) on_fw3a) $$ Hf3; iintro Hf3
  iapply (le_wp_ret _ _ _ _ _)
  iapply Hk
  isplitl [Hq8]; · iexact Hq8
  isplitl [Hy8]; · iexact Hy8
  isplitl [Ho]; · iexact Ho
  isplitl [Hf3]; · iexact Hf3
  iexact HO

/-- The nineteenth: the third from the right. -/
theorem wp_part19 (v7 : BitVec 32) (v21 : BitVec 1) (v61 : FVec F S512x256 .bf16) (v75 : IVec S512x1 32) (v82 : FVec F S512x1 .f32) (v586 : FVec F S512x512 .f32) (v589 : BitVec 32) (v590 : BitVec 1) (Q : _ → sProp 𝕄) :
    iprop(pts c (slot3a bwM) fullShare (BW W c))
      ⊢ iprop(((pts c (slot3a bwM) fullShare (BW W c)) -∗ Q ⟨k0_pay30 v61 v75 v82 v586 v589 v590 (lb3 W c), Scalar.addi (Scalar.muli (wperm (Scalar.select v21 (Scalar.subi v7 3#32) (Scalar.addi v7 3#32))) 4#32) 2#32, k0_pay31 v7 v21⟩)
          -∗ wpc c (k0_part19 (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 v7 v21 v61 v75 v82 v586 v589 v590) Q) := by
  rw [k0_part19_eq_skeleton]; unfold k0_part19_skel
  simp only [Prog.lift, Prog.bind_op, Prog.bind_ret, Prog.pure_eq_ret]
  iintro Hb3 Hk
  unfold wperm
  iapply (wp_load 𝒱₀ (c : Thread nD τ) none Set.univ (m := bwM) on_bw3a) $$ Hb3; iintro Hb3
  iapply (le_wp_ret _ _ _ _ _)
  iapply Hk
  iexact Hb3

end Parts

end Cert.IdealTalk

end

end
-- ==== Proof.Ideal.Cut.lean ====
/-
The buffers are cut up for the exchange, and put together again.
-/
module

public import proofs.«01_k».proof.Proof.Ideal.Parts2

@[expose] public section

noncomputable section

namespace Cert.IdealTalk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting up and putting together -/

section Cut
omit [FloatOps F]

/-- A share of a part is its two halves. -/
theorem pts_halves (c : Dev nD) {s : Shape} {e : EltTy} (M : Memref sig .tc .vmem s e) (q : PosShare TreeShare)
    (f : Buf (Elt F) (M.view.loc (c : Thread nD τ))) : (pts c M q f : sProp 𝕄) ⊣⊢ iprop(pts c M q.left f ∗ pts c M q.right f) :=
  pointsTo_share (PosShare.mem_left_op_right q)

/-- Three disjoint parts out of a whole buffer, -/
theorem cut3 {ℓ : Loc nD τ sig} (A B C : Finset (Idx ℓ)) (hAB : Disjoint A B) (hAC : Disjoint A C) (hBC : Disjoint B C) (f : Buf (Elt F) ℓ) :
    (ℓ ↦{fullShare} f : sProp 𝕄) ⊢ iprop((ℓ ↦[A]{fullShare} f) ∗ (ℓ ↦[B]{fullShare} f) ∗ (ℓ ↦[C]{fullShare} f) ∗ (ℓ ↦[((Finset.univ \ A) \ B) \ C]{fullShare} f)) := by
  have hB : B ⊆ Finset.univ \ A := fun i hi => Finset.mem_sdiff.mpr ⟨Finset.mem_univ _, fun h => Finset.disjoint_left.mp hAB h hi⟩
  have hC : C ⊆ (Finset.univ \ A) \ B := fun i hi => Finset.mem_sdiff.mpr
    ⟨Finset.mem_sdiff.mpr ⟨Finset.mem_univ _, fun h => Finset.disjoint_left.mp hAC h hi⟩, fun h => Finset.disjoint_left.mp hBC h hi⟩
  iintro H
  ihave H := (pointsTo_split_subset (Finset.subset_univ A)).1 $$ H
  icases H with ⟨HA, H⟩
  ihave H := (pointsTo_split_subset hB).1 $$ H
  icases H with ⟨HB, H⟩
  ihave H := (pointsTo_split_subset hC).1 $$ H
  icases H with ⟨HC, H⟩
  isplitl [HA]; · iexact HA
  isplitl [HB]; · iexact HB
  isplitl [HC]; · iexact HC
  iexact H
/-- and back, whatever they hold. -/
theorem glue3 {ℓ : Loc nD τ sig} (A B C : Finset (Idx ℓ)) (hAB : Disjoint A B) (hAC : Disjoint A C) (hBC : Disjoint B C) (f fa fb fc : Buf (Elt F) ℓ) :
    iprop((ℓ ↦[A]{fullShare} fa) ∗ (ℓ ↦[B]{fullShare} fb) ∗ (ℓ ↦[C]{fullShare} fc) ∗ (ℓ ↦[((Finset.univ \ A) \ B) \ C]{fullShare} f))
      ⊢ (iprop(∃ g, ℓ ↦{fullShare} g) : sProp 𝕄) := by
  have hB : B ⊆ Finset.univ \ A := fun i hi => Finset.mem_sdiff.mpr ⟨Finset.mem_univ _, fun h => Finset.disjoint_left.mp hAB h hi⟩
  have hC : C ⊆ (Finset.univ \ A) \ B := fun i hi => Finset.mem_sdiff.mpr
    ⟨Finset.mem_sdiff.mpr ⟨Finset.mem_univ _, fun h => Finset.disjoint_left.mp hAC h hi⟩, fun h => Finset.disjoint_left.mp hBC h hi⟩
  iintro ⟨HA, HB, HC, H⟩
  ihave H := (pointsTo_join_subset hC) $$ [HC H]
  · isplitl [HC]; · iexact HC
    iexact H
  ihave H := (pointsTo_join_subset hB) $$ [HB H]
  · isplitl [HB]; · iexact HB
    iexact H
  ihave H := (pointsTo_join_subset (Finset.subset_univ A)) $$ [HA H]
  · isplitl [HA]; · iexact HA
    iexact H
  iexists _
  iexact H
end Cut

section Slots
omit [FloatOps F]
variable (W : Dev nD → (cc0_stg3_0 : Ref sig .tc).ty.Contents (Elt F)) (c : Dev nD)

/-- Slot two is its two halves. -/
theorem fw2_halves (q : PosShare TreeShare) : (pts c (slot2 fwM) q (FW W c) : sProp 𝕄) ⊣⊢ iprop(pts c (slot2a fwM) q (FW W c) ∗ pts c (slot2b fwM) q (FW W c)) := by
  have h : (slot2 fwM).view.set = (slot2a fwM).view.set ∪ (slot2b fwM).view.set := by rw [fw2_set, fw2a_set, fw2b_set, R2ab_union]
  have hd : Disjoint (slot2a fwM).view.set (slot2b fwM).view.set := by rw [fw2a_set, fw2b_set]; exact R2ab_disj
  have := pointsTo_union (Ix := Unit) (Name := ℕ) (U := UU) (Lvl := ℕ) (ℓ := fwM.view.loc (c : Thread nD τ)) (q := q) (f := FW W c) hd
  rw [← h] at this
  exact this
/-- Slot 2 of the backward buffer is its two halves. -/
theorem bw2_halves (q : PosShare TreeShare) : (pts c (slot2 bwM) q (BW W c) : sProp 𝕄) ⊣⊢ iprop(pts c (slot2a bwM) q (BW W c) ∗ pts c (slot2b bwM) q (BW W c)) := by
  have h : (slot2 bwM).view.set = (slot2a bwM).view.set ∪ (slot2b bwM).view.set := by rw [bw2_set, bw2a_set, bw2b_set, R2ab_union]
  have hd : Disjoint (slot2a bwM).view.set (slot2b bwM).view.set := by rw [bw2a_set, bw2b_set]; exact R2ab_disj
  have := pointsTo_union (Ix := Unit) (Name := ℕ) (U := UU) (Lvl := ℕ) (ℓ := bwM.view.loc (c : Thread nD τ)) (q := q) (f := BW W c) hd
  rw [← h] at this
  exact this
/-- The own experts besides the upper two. -/
def ewLeft (q : PosShare TreeShare) : sProp 𝕄 := ewM.view.loc (c : Thread nD τ) ↦[Finset.univ \ ewB.view.set]{q} W c
/-- The own experts are the upper two and the others. -/
theorem ew_halves (q : PosShare TreeShare) : (pts c ewM q (W c) : sProp 𝕄) ⊣⊢ iprop(pts c ewB q (W c) ∗ ewLeft W c q) := by
  rw [show (pts c ewM q (W c) : sProp 𝕄) = (ewM.view.loc (c : Thread nD τ) ↦{q} W c) from by
    show (ewM.view.loc (c : Thread nD τ) ↦[ewM.view.set]{q} W c : sProp 𝕄) = _; rw [show ewM.view.set = Finset.univ from View.set_whole _]]
  exact pointsTo_split_subset (Finset.subset_univ _)
/-- Which of the two goes to the partner depends on the parity; -/
theorem c1_parity (q : PosShare TreeShare) : (iprop(pts c (slot1 fwM) q (FW W c) ∗ pts c (slot1 bwM) q (BW W c)) : sProp 𝕄)
    ⊣⊢ iprop(c1Part W c q (ev c) ∗ c1Part W c q (!ev c)) := by
  unfold c1Part
  cases ev c
  · exact Laws.sep_comm
  · exact ⟨Entails.refl _, Entails.refl _⟩
/-- The second halves of both buffers: the one the third cross copy sends, and the other. -/
theorem c2_parity (q : PosShare TreeShare) : (iprop(pts c (slot2b fwM) q (FW W c) ∗ pts c (slot2b bwM) q (BW W c)) : sProp 𝕄)
    ⊣⊢ iprop(c2Part W c q (ev c) ∗ c2Part W c q (!ev c)) := by
  unfold c2Part
  cases ev c
  · exact Laws.sep_comm
  · exact ⟨Entails.refl _, Entails.refl _⟩

/-- Slots 1 and 2 of the forward buffer are apart. -/
theorem fd12 : Disjoint (slot1 fwM).view.set (slot2 fwM).view.set := by rw [fw1_set, fw2_set]; exact R12_disj
/-- Slots 1 and 3 of the forward buffer are apart. -/
theorem fd13 : Disjoint (slot1 fwM).view.set (slot3a fwM).view.set := by rw [fw1_set, fw3a_set]; exact R13_disj
/-- Slots 2 and 3 of the forward buffer are apart. -/
theorem fd23 : Disjoint (slot2 fwM).view.set (slot3a fwM).view.set := by rw [fw2_set, fw3a_set]; exact R23_disj
/-- Slots 1 and 2 of the backward buffer are apart. -/
theorem bd12 : Disjoint (slot1 bwM).view.set (slot2 bwM).view.set := by rw [bw1_set, bw2_set]; exact R12_disj
/-- Slots 1 and 3 of the backward buffer are apart. -/
theorem bd13 : Disjoint (slot1 bwM).view.set (slot3a bwM).view.set := by rw [bw1_set, bw3a_set]; exact R13_disj
/-- Slots 2 and 3 of the backward buffer are apart. -/
theorem bd23 : Disjoint (slot2 bwM).view.set (slot3a bwM).view.set := by rw [bw2_set, bw3a_set]; exact R23_disj

/-- What is left of a ring buffer. -/
def fwLeft (f : Buf (Elt F) (fwM.view.loc (c : Thread nD τ))) : sProp 𝕄 :=
  fwM.view.loc (c : Thread nD τ) ↦[((Finset.univ \ (slot1 fwM).view.set) \ (slot2 fwM).view.set) \ (slot3a fwM).view.set]{fullShare} f
/-- What of the backward buffer no copy lands in. -/
def bwLeft (f : Buf (Elt F) (bwM.view.loc (c : Thread nD τ))) : sProp 𝕄 :=
  bwM.view.loc (c : Thread nD τ) ↦[((Finset.univ \ (slot1 bwM).view.set) \ (slot2 bwM).view.set) \ (slot3a bwM).view.set]{fullShare} f

/-- The forward buffer is the room for three landings and the rest. -/
theorem fw_cut (f : Buf (Elt F) (fwM.view.loc (c : Thread nD τ))) : (pts c fwM fullShare f : sProp 𝕄) ⊢ iprop(fwRoom c ∗ fwLeft c f) := by
  rw [show (pts c fwM fullShare f : sProp 𝕄) = (fwM.view.loc (c : Thread nD τ) ↦{fullShare} f) from by
    show (fwM.view.loc (c : Thread nD τ) ↦[fwM.view.set]{fullShare} f : sProp 𝕄) = _; rw [show fwM.view.set = Finset.univ from View.set_whole _]]
  iintro H
  ihave H := (cut3 _ _ _ fd12 fd13 fd23 f) $$ H
  icases H with ⟨H1, H2, H3, H⟩
  unfold fwRoom room fwLeft
  isplitl [H1 H2 H3]
  · isplitl [H1]; · iexists f; iexact H1
    isplitl [H2]; · iexists f; iexact H2
    iexists f; iexact H3
  iexact H
/-- The backward buffer is the room for three landings and the rest. -/
theorem bw_cut (f : Buf (Elt F) (bwM.view.loc (c : Thread nD τ))) : (pts c bwM fullShare f : sProp 𝕄) ⊢ iprop(bwRoom c ∗ bwLeft c f) := by
  rw [show (pts c bwM fullShare f : sProp 𝕄) = (bwM.view.loc (c : Thread nD τ) ↦{fullShare} f) from by
    show (bwM.view.loc (c : Thread nD τ) ↦[bwM.view.set]{fullShare} f : sProp 𝕄) = _; rw [show bwM.view.set = Finset.univ from View.set_whole _]]
  iintro H
  ihave H := (cut3 _ _ _ bd12 bd13 bd23 f) $$ H
  icases H with ⟨H1, H2, H3, H⟩
  unfold bwRoom room bwLeft
  isplitl [H1 H2 H3]
  · isplitl [H1]; · iexists f; iexact H1
    isplitl [H2]; · iexists f; iexact H2
    iexists f; iexact H3
  iexact H
/-- After the landings the forward buffer is whole again. -/
theorem fw_glue (f : Buf (Elt F) (fwM.view.loc (c : Thread nD τ))) :
    iprop(pts c (slot1 fwM) fullShare (FW W c) ∗ pts c (slot2 fwM) fullShare (FW W c) ∗ pts c (slot3a fwM) fullShare (FW W c) ∗ fwLeft c f)
      ⊢ (iprop(∃ g, (((c : Thread nD τ).loc cc0_scratch0) ↦{fullShare} g)) : sProp 𝕄) :=
  glue3 (ℓ := fwM.view.loc (c : Thread nD τ)) _ _ _ fd12 fd13 fd23 f (FW W c) (FW W c) (FW W c)
/-- After the landings the backward buffer is whole again. -/
theorem bw_glue (f : Buf (Elt F) (bwM.view.loc (c : Thread nD τ))) :
    iprop(pts c (slot1 bwM) fullShare (BW W c) ∗ pts c (slot2 bwM) fullShare (BW W c) ∗ pts c (slot3a bwM) fullShare (BW W c) ∗ bwLeft c f)
      ⊢ (iprop(∃ g, (((c : Thread nD τ).loc cc0_scratch1) ↦{fullShare} g)) : sProp 𝕄) :=
  glue3 (ℓ := bwM.view.loc (c : Thread nD τ)) _ _ _ bd12 bd13 bd23 f (BW W c) (BW W c) (BW W c)
end Slots

end Cert.IdealTalk

end

end
-- ==== Proof.Ideal.Body.lean ====
/-
The kernel's body: the parts run one after another.
-/
module

public import proofs.«01_k».proof.Proof.Ideal.Cut

@[expose] public section

noncomputable section

namespace Cert.IdealTalk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the kernel computes -/

section Out
variable (W : Dev nD → (cc0_stg3_0 : Ref sig .tc).ty.Contents (Elt F)) (c : Dev nD)
  (x : (cc0_stg0_0 : Ref sig .tc).ty.Contents (Elt F)) (rw : (cc0_stg1_0 : Ref sig .tc).ty.Contents (Elt F)) (id : (cc0_stg2_0 : Ref sig .tc).ty.Contents (Elt F)) (sw : (cc0_stg4_0 : Ref sig .tc).ty.Contents (Elt F))

/-- After the own experts. -/
def out1 : FVec F S512x512 .f32 :=
  k0_pay7 (k0_pay2 x) (k0_pay3 id) (k0_pay4 x rw id) (k0_pay5 x sw) (Scalar.addi (Scalar.muli (w2 c) 4#32) 0#32) (k0_pay6 (w2 c) x rw id) (W c)
section Steps
variable (v61 : FVec F S512x256 .bf16) (v75 : IVec S512x1 32) (v82 : FVec F S512x1 .f32)
/-- After the two neighbours' and two of the partner's. -/
def out2 (o : FVec F S512x512 .f32) : FVec F S512x512 .f32 :=
  k0_pay18 (k0_pay16 v61 v82 (k0_pay10 (k0_pay8 o) (k0_pay9 (w7 c) v61 v75 v82) (lf1 W c)) (k0_pay11 (w7 c) v61 v75 v82) (k0_pay12 (w7 c) v61 v75 v82)
      (k0_pay13 (w7 c) v61 v75 v82) (k0_pay14 (w7 c) v75) (k0_pay15 (F := F)) (lb1 W c))
    (k0_pay17 (w7 c) (w21 c) v61 v75 v82) (CR0 W c)
/-- After those two steps away, and the opposite device's. -/
def out3 (o : FVec F S512x512 .f32) : FVec F S512x512 .f32 :=
  k0_pay28 (k0_pay22 (k0_pay20 v61 v75 v82 (k0_pay19 o) (Scalar.remsi (Scalar.addi (Scalar.subi (w7 c) 2#32) 16#32) 8#32) 4#32 (lf2 W c))
      (k0_pay21 (w7 c) v61 v75 v82) (lb2 W c)) (k0_pay23 (w7 c) v61 v75 v82) (k0_pay24 (w7 c) v61 v75 v82) (k0_pay25 (w7 c) v61 v75 v82)
    (k0_pay26 (w7 c) v75 v82) (k0_pay27 v61) (CR1 W c)
/-- After the rest: two of each of those three steps away, and the other two of one of them. -/
def out4 (o : FVec F S512x512 .f32) : FVec F S512x512 .f32 :=
  k0_pay1 v61 v75 v82 (k0_pay30 v61 v75 v82 (k0_pay29 (w7 c) v61 v75 v82 o (lf3 W c)) (Scalar.remsi (Scalar.addi (Scalar.addi (w7 c) 3#32) 16#32) 8#32)
      (Scalar.cmpi .slt (Scalar.remsi (Scalar.addi (Scalar.addi (w7 c) 3#32) 16#32) 8#32) 4#32) (lb3 W c))
    (Scalar.addi (Scalar.muli (wperm (Scalar.select (w21 c) (Scalar.subi (w7 c) 3#32) (Scalar.addi (w7 c) 3#32))) 4#32) 2#32) (k0_pay31 (w7 c) (w21 c)) (CR2 W c)
end Steps
/-- The result of device `c`. -/
def outAt : FVec F S512x512 .f32 :=
  out4 W c (k0_pay2 x) (k0_pay3 id) (k0_pay4 x rw id) (out3 W c (k0_pay2 x) (k0_pay3 id) (k0_pay4 x rw id)
    (out2 W c (k0_pay2 x) (k0_pay3 id) (k0_pay4 x rw id) (out1 W c x rw id sw)))
end Out

/-! ## The body -/

/-- One part after another. -/
theorem wpc_bind {α β : Type} (c : Dev nD) (p : Prog (TpuEff nD τ sig (Elt F) Λ₀ .tc) α) (k : α → Prog (TpuEff nD τ sig (Elt F) Λ₀ .tc) β) (Q : β → sProp 𝕄) :
    wpc c (p >>= k) Q = wpc c p (fun a => wpc c (k a) Q) := wp_bind _ _ _ _ _ _

section Body
variable (W : Dev nD → (cc0_stg3_0 : Ref sig .tc).ty.Contents (Elt F)) (K : Dev nD × Fin 19 → ℕ) (c : Dev nD)

/-- Everything of the protocol that device `c` holds when its body starts. -/
def ghost : sProp 𝕄 :=
  iprop(sigG W K (left c) 0 ∗ sigG W K (right c) 1 ∗ sigG W K (partner c) 2 ∗ barG W K c
    ∗ bigSep Finset.univ (fun i => xferG W K c i) ∗ bigSep Finset.univ (fun i => outG W K c i) ∗ bigSep Finset.univ (fun i => inG W K c i))
/-- The credit it waits with. -/
def credits : sProp 𝕄 := iprop(cred (tallyAt (barCell c) () 3) ∗ bigSep Finset.univ (fun i => crR (F := F) c i))
/-- The semaphores at zero when it ends. -/
def zeros : sProp 𝕄 :=
  iprop(semVal (barCell c) 0 ∗ bigSep Finset.univ (fun i => semVal (sendCell c i) 0) ∗ bigSep Finset.univ (fun i => semVal (recvCell c i) 0))

omit [FloatOps F] in
/-- A product over nine, written out. -/
theorem nine (Φ : Fin 9 → sProp 𝕄) : bigSep Finset.univ Φ
    = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

set_option maxHeartbeats 4000000 in
/-- The body of the kernel on device `c`. -/
theorem wp_body (x : (cc0_stg0_0 : Ref sig .tc).ty.Contents (Elt F)) (rw : (cc0_stg1_0 : Ref sig .tc).ty.Contents (Elt F)) (id : (cc0_stg2_0 : Ref sig .tc).ty.Contents (Elt F)) (sw : (cc0_stg4_0 : Ref sig .tc).ty.Contents (Elt F)) (o : (cc0_stg5_0 : Ref sig .tc).ty.Contents (Elt F)) (ffw : (cc0_scratch0 : Ref sig .tc).ty.Contents (Elt F)) (fbw : (cc0_scratch1 : Ref sig .tc).ty.Contents (Elt F))
    (fk0 : (cc0_scratch2 : Ref sig .tc).ty.Contents (Elt F)) (fk1 : (cc0_scratch3 : Ref sig .tc).ty.Contents (Elt F)) (fk2 : (cc0_scratch4 : Ref sig .tc).ty.Contents (Elt F)) (Q : PUnit → sProp 𝕄) :
    iprop(ghost W K c ∗ credits c ∗ levAts L lv ∗ own c (O₀ c)
        ∗ pts c fwM fullShare ffw ∗ pts c bwM fullShare fbw ∗ pts c c0M fullShare fk0 ∗ pts c c1M fullShare fk1 ∗ pts c c2M fullShare fk2
        ∗ pts c xM fullShare x ∗ pts c rwM fullShare rw ∗ pts c idM fullShare id ∗ pts c ewM fullShare (W c) ∗ pts c swM fullShare sw ∗ pts c oM fullShare o)
      ⊢ iprop(((zeros c ∗ own c 0
        ∗ (∃ g, (((c : Thread nD τ).loc cc0_scratch0) ↦{fullShare} g)) ∗ (∃ g, (((c : Thread nD τ).loc cc0_scratch1) ↦{fullShare} g))
        ∗ pts c c0M fullShare (CR0 W c) ∗ pts c c1M fullShare (CR1 W c) ∗ pts c c2M fullShare (CR2 W c)
        ∗ pts c xM fullShare x ∗ pts c rwM fullShare rw ∗ pts c idM fullShare id ∗ pts c ewM fullShare (W c) ∗ pts c swM fullShare sw
        ∗ pts c oM fullShare (outAt W c x rw id sw)) -∗ Q ⟨⟩)
      -∗ wpc c (cc0_body (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6) Q) := by
  rw [cc0_body_eq_skeleton]; unfold cc0_body_skel
  unfold ghost credits
  simp only [nine]
  iintro ⟨⟨Hg0, Hg1, Hg2, Hbar, ⟨Hx0, Hx1, Hx2, Hx3, Hx4, Hx5, Hx6, Hx7, Hx8⟩, ⟨Hw0, Hw1, Hw2, Hw3, Hw4, Hw5, Hw6, Hw7, Hw8⟩, ⟨Hv0, Hv1, Hv2, Hv3, Hv4, Hv5, Hv6, Hv7, Hv8⟩⟩,
    ⟨Hcb, Hr0, Hr1, Hr2, Hr3, Hr4, Hr5, Hr6, Hr7, Hr8⟩, #Hlev, HO, Hfw, Hbw, Hk0, Hk1, Hk2, Hx, Hrw, Hid, Hew, Hsw, Ho⟩ Hk
  ihave Hfw := (fw_cut c ffw) $$ Hfw
  icases Hfw with ⟨Hfw, Hfl⟩
  ihave Hbw := (bw_cut c fbw) $$ Hbw
  icases Hbw with ⟨Hbw, Hbl⟩
  ihave He := (pts_halves c ewM fullShare (W c)).1 $$ Hew
  icases He with ⟨He, Hew⟩
  ihave He := (pts_halves c ewM fullShare.left (W c)).1 $$ He
  icases He with ⟨Hs0, Hs3⟩
  ihave He := (pts_halves c ewM fullShare.right (W c)).1 $$ Hew
  icases He with ⟨He, Hew⟩
  ihave He := (ew_halves W c qRL).1 $$ He
  icases He with ⟨Hs6, Hel⟩
  rw [wpc_bind]
  iapply (wp_part1 c _)
  try dsimp only
  rw [wpc_bind]
  iapply (wp_part2 W K c _ _ _ _ _ _) $$ [Hg0 Hfw Hg1 Hbw Hg2 Hk0 Hk1 Hk2 Hbar Hcb HO Hx0 Hx3 Hs0 Hs3]
  · isplitl [Hg0]; · iexact Hg0
    isplitl [Hfw]; · iexact Hfw
    isplitl [Hg1]; · iexact Hg1
    isplitl [Hbw]; · iexact Hbw
    isplitl [Hg2]; · iexact Hg2
    isplitl [Hk0 Hk1 Hk2]
    · unfold crRoom room
      isplitl [Hk0]; · iexists fk0; iexact Hk0
      isplitl [Hk1]; · iexists fk1; iexact Hk1
      iexists fk2; iexact Hk2
    isplitl [Hbar]; · iexact Hbar
    isplitl [Hcb]; · iexact Hcb
    isplitl [HO]; · iexact HO
    isplitr; · iexact Hlev
    isplitl [Hx0]; · iexact Hx0
    isplitl [Hx3]; · iexact Hx3
    isplitl [Hs0]; · iexact Hs0
    iexact Hs3
  iintro ⟨Hd1, Hd2, Hd4, Hd5, Hcr, Hzb, Hc0, Hc3, HO⟩
  unfold crRoom
  icases Hcr with ⟨Hd6, Hd7, Hd8⟩
  rw [wpc_bind]
  iapply (wp_part3 W K c x rw id sw _ _) $$ [Hx6 Hs6 Hd6 HO Hx Hrw Hid Hsw]
  · isplitl [Hx6]; · iexact Hx6
    isplitl [Hs6]; · iexact Hs6
    isplitl [Hd6]; · iexact Hd6
    isplitl [HO]; · iexact HO
    isplitl [Hx]; · iexact Hx
    isplitl [Hrw]; · iexact Hrw
    isplitl [Hid]; · iexact Hid
    iexact Hsw
  iintro ⟨Hc6, HO, Hx, Hrw, Hid, Hsw⟩
  try dsimp only
  rw [wpc_bind]
  iapply (wp_part4 W K c _ _ _ _ _ _ o _) $$ [Hew Ho Hw0 Hc0 HO]
  · isplitl [Hew]; · iexact Hew
    isplitl [Ho]; · iexact Ho
    isplitl [Hw0]; · iexact Hw0
    isplitl [Hc0]; · iexact Hc0
    isplitl [HO]; · iexact HO
    iexact Hlev
  iintro ⟨Hew, Ho, Hp0, Hz0, HO⟩
  try dsimp only
  rw [wpc_bind]
  iapply (wp_part5 W K c _ _ _) $$ [Hv0 Hr0 Hw3 Hc3 Hv3 Hr3 HO]
  · isplitl [Hv0]; · iexact Hv0
    isplitl [Hr0]; · iexact Hr0
    isplitl [Hw3]; · iexact Hw3
    isplitl [Hc3]; · iexact Hc3
    isplitl [Hv3]; · iexact Hv3
    isplitl [Hr3]; · iexact Hr3
    isplitl [HO]; · iexact HO
    iexact Hlev
  iintro ⟨Hq0, Hy0, Hp3, Hz3, Hq3, Hy3, HO⟩
  try dsimp only
  ihave Hq0 := (show recvPay W c 0 ⊢ pts c (slot1 fwM) fullShare (FW W c) from Entails.refl _) $$ Hq0
  ihave Hq3 := (show recvPay W c 3 ⊢ pts c (slot1 bwM) fullShare (BW W c) from Entails.refl _) $$ Hq3
  ihave H := (pts_halves c (slot1 fwM) fullShare (FW W c)).1 $$ Hq0
  icases H with ⟨Hs1, H⟩
  ihave H := (pts_halves c (slot1 fwM) qR (FW W c)).1 $$ H
  icases H with ⟨Ha, Hf1⟩
  ihave H := (pts_halves c (slot1 bwM) fullShare (BW W c)).1 $$ Hq3
  icases H with ⟨Hs4, H⟩
  ihave H := (pts_halves c (slot1 bwM) qR (BW W c)).1 $$ H
  icases H with ⟨Hb, Hb1⟩
  ihave H := (c1_parity W c qRL).1 $$ [Ha Hb]
  · isplitl [Ha]; · iexact Ha
    iexact Hb
  icases H with ⟨Hs7, Hn7⟩
  rw [wpc_bind]
  iapply (wp_part6 W K c _ _ _ _) $$ [Hx1 Hs1 Hd1 Hx4 Hs4 Hd4 Hx7 Hs7 Hd7 Hw6 Hc6 Hv6 Hr6 HO]
  · isplitl [Hx1]; · iexact Hx1
    isplitl [Hs1]; · iexact Hs1
    isplitl [Hd1]; · iexact Hd1
    isplitl [Hx4]; · iexact Hx4
    isplitl [Hs4]; · iexact Hs4
    isplitl [Hd4]; · iexact Hd4
    isplitl [Hx7]; · iexact Hx7
    isplitl [Hs7]; · iexact Hs7
    isplitl [Hd7]; · iexact Hd7
    isplitl [Hw6]; · iexact Hw6
    isplitl [Hc6]; · iexact Hc6
    isplitl [Hv6]; · iexact Hv6
    isplitl [Hr6]; · iexact Hr6
    isplitl [HO]; · iexact HO
    iexact Hlev
  iintro ⟨Hc1, Hc4, Hc7, Hp6, Hz6, Hk0, Hy6, HO⟩
  try dsimp only
  ihave Hk0 := (show recvPay W c 6 ⊢ pts c c0M fullShare (CR0 W c) from Entails.refl _) $$ Hk0
  rw [wpc_bind]
  iapply (wp_part7 c _ _ _ _ _ _) $$ [Ho]
  · iexact Ho
  iintro Ho
  try dsimp only
  rw [wpc_bind]
  iapply (wp_part8 W c _ _ _ _ _ _ _) $$ [Hf1]
  · iexact Hf1
  iintro Hf1
  try dsimp only
  rw [wpc_bind]
  iapply (wp_part9 W c _ _ _ _ _ _ _ _ _ _ _ _) $$ [Hb1 Hk0]
  · isplitl [Hb1]; · iexact Hb1
    iexact Hk0
  iintro ⟨Hb1, Hk0⟩
  try dsimp only
  rw [wpc_bind]
  iapply (wp_part10 W K c _ _ _ _ _ _) $$ [Ho Hw1 Hc1 Hv1 Hr1 HO]
  · isplitl [Ho]; · iexact Ho
    isplitl [Hw1]; · iexact Hw1
    isplitl [Hc1]; · iexact Hc1
    isplitl [Hv1]; · iexact Hv1
    isplitl [Hr1]; · iexact Hr1
    isplitl [HO]; · iexact HO
    iexact Hlev
  iintro ⟨Ho, Hp1, Hz1, Hq1, Hy1, HO⟩
  try dsimp only
  ihave Hq1 := (show recvPay W c 1 ⊢ pts c (slot2 fwM) fullShare (FW W c) from Entails.refl _) $$ Hq1
  ihave H := (pts_halves c (slot2 fwM) fullShare (FW W c)).1 $$ Hq1
  icases H with ⟨H, Hf2⟩
  ihave H := (fw2_halves W c qL).1 $$ H
  icases H with ⟨Hs2, Ha⟩
  rw [wpc_bind]
  iapply (wp_part11 W K c _ _ _) $$ [Hw4 Hc4 Hv4 Hr4 Hx2 Hs2 Hd2 HO]
  · isplitl [Hw4]; · iexact Hw4
    isplitl [Hc4]; · iexact Hc4
    isplitl [Hv4]; · iexact Hv4
    isplitl [Hr4]; · iexact Hr4
    isplitl [Hx2]; · iexact Hx2
    isplitl [Hs2]; · iexact Hs2
    isplitl [Hd2]; · iexact Hd2
    isplitl [HO]; · iexact HO
    iexact Hlev
  iintro ⟨Hp4, Hz4, Hq4, Hy4, Hc2, HO⟩
  try dsimp only
  ihave Hq4 := (show recvPay W c 4 ⊢ pts c (slot2 bwM) fullShare (BW W c) from Entails.refl _) $$ Hq4
  ihave H := (pts_halves c (slot2 bwM) fullShare (BW W c)).1 $$ Hq4
  icases H with ⟨H, Hb2⟩
  ihave H := (bw2_halves W c qL).1 $$ H
  icases H with ⟨Hs5, Hb⟩
  ihave H := (c2_parity W c qL).1 $$ [Ha Hb]
  · isplitl [Ha]; · iexact Ha
    iexact Hb
  icases H with ⟨Hs8, Hn8⟩
  rw [wpc_bind]
  iapply (wp_part12 W K c _ _ _ _ _) $$ [Hx5 Hs5 Hd5 Hx8 Hs8 Hd8 Hw7 Hc7 Hv7 Hr7 Ho HO]
  · isplitl [Hx5]; · iexact Hx5
    isplitl [Hs5]; · iexact Hs5
    isplitl [Hd5]; · iexact Hd5
    isplitl [Hx8]; · iexact Hx8
    isplitl [Hs8]; · iexact Hs8
    isplitl [Hd8]; · iexact Hd8
    isplitl [Hw7]; · iexact Hw7
    isplitl [Hc7]; · iexact Hc7
    isplitl [Hv7]; · iexact Hv7
    isplitl [Hr7]; · iexact Hr7
    isplitl [Ho]; · iexact Ho
    isplitl [HO]; · iexact HO
    iexact Hlev
  iintro ⟨Hc5, Hc8, Hp7, Hz7, Hk1, Hy7, Ho, HO⟩
  try dsimp only
  ihave Hk1 := (show recvPay W c 7 ⊢ pts c c1M fullShare (CR1 W c) from Entails.refl _) $$ Hk1
  rw [wpc_bind]
  iapply (wp_part13 W c _ _ _ _ _ _ _) $$ [Hf2]
  · iexact Hf2
  iintro Hf2
  try dsimp only
  rw [wpc_bind, k0_part14_eq_skeleton]; unfold k0_part14_skel
  rw [Prog.pure_eq_ret]
  iapply (le_wp_ret _ _ _ _ _)
  rw [wpc_bind]
  iapply (wp_part15 W c _ _ _ _ _ _ _) $$ [Hb2]
  · iexact Hb2
  iintro Hb2
  try dsimp only
  rw [wpc_bind]
  iapply (wp_part16 W K c _ _ _ _ _ _ _ _ _) $$ [Hk1 Ho Hw2 Hc2 Hv2 Hr2 HO]
  · isplitl [Hk1]; · iexact Hk1
    isplitl [Ho]; · iexact Ho
    isplitl [Hw2]; · iexact Hw2
    isplitl [Hc2]; · iexact Hc2
    isplitl [Hv2]; · iexact Hv2
    isplitl [Hr2]; · iexact Hr2
    isplitl [HO]; · iexact HO
    iexact Hlev
  iintro ⟨Hk1, Ho, Hp2, Hz2, Hf3, Hy2, HO⟩
  try dsimp only
  rw [wpc_bind]
  iapply (wp_part17 W K c _ _ _) $$ [Hw5 Hc5 Hv5 Hr5 Hw8 Hc8 HO]
  · isplitl [Hw5]; · iexact Hw5
    isplitl [Hc5]; · iexact Hc5
    isplitl [Hv5]; · iexact Hv5
    isplitl [Hr5]; · iexact Hr5
    isplitl [Hw8]; · iexact Hw8
    isplitl [Hc8]; · iexact Hc8
    isplitl [HO]; · iexact HO
    iexact Hlev
  iintro ⟨Hp5, Hz5, Hb3, Hy5, Hp8, Hz8, HO⟩
  try dsimp only
  ihave Hf3 := (show recvPay W c 2 ⊢ pts c (slot3a fwM) fullShare (FW W c) from Entails.refl _) $$ Hf3
  ihave Hb3 := (show recvPay W c 5 ⊢ pts c (slot3a bwM) fullShare (BW W c) from Entails.refl _) $$ Hb3
  rw [wpc_bind]
  iapply (wp_part18 W K c _ _ _ _ _ _) $$ [Hv8 Hr8 Ho Hf3 HO]
  · isplitl [Hv8]; · iexact Hv8
    isplitl [Hr8]; · iexact Hr8
    isplitl [Ho]; · iexact Ho
    isplitl [Hf3]; · iexact Hf3
    isplitl [HO]; · iexact HO
    iexact Hlev
  iintro ⟨Hk2, Hy8, Ho, Hf3, HO⟩
  try dsimp only
  ihave Hk2 := (show recvPay W c 8 ⊢ pts c c2M fullShare (CR2 W c) from Entails.refl _) $$ Hk2
  rw [wpc_bind]
  iapply (wp_part19 W c _ _ _ _ _ _ _ _ _) $$ [Hb3]
  · iexact Hb3
  iintro Hb3
  try dsimp only
  simp only [Prog.lift, Prog.bind_op, Prog.bind_ret, Prog.pure_eq_ret]
  iapply (wp_load 𝒱₀ (c : Thread nD τ) none Set.univ (m := c2M) (View.setOn_subset_set _ _)) $$ Hk2; iintro Hk2
  rw [ld_c2]
  iapply (wp_load 𝒱₀ (c : Thread nD τ) none Set.univ (m := oM) (View.setOn_subset_set _ _)) $$ Ho; iintro Ho
  iapply (wp_store 𝒱₀ (c : Thread nD τ) none Set.univ (m := oM) (r := Rect.unit (s := S512x512) ![0, 0] S512x512.size inb_S512x512_S512x512_0_0) (Mk := Finset.univ) on_o) $$ Ho; iintro Ho
  rw [st_o]
  iapply (le_wp_ret _ _ _ _ _)
  iapply Hk
  isplitl [Hzb Hz0 Hz1 Hz2 Hz3 Hz4 Hz5 Hz6 Hz7 Hz8 Hy0 Hy1 Hy2 Hy3 Hy4 Hy5 Hy6 Hy7 Hy8]
  · unfold zeros
    simp only [nine]
    isplitl [Hzb]; · iexact Hzb
    isplitl [Hz0 Hz1 Hz2 Hz3 Hz4 Hz5 Hz6 Hz7 Hz8]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      iexact Hz8
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    iexact Hy8
  isplitl [HO]
  · rw [show Odue Sq9 c = 0 from by rw [show (Sq9 : Finset (Fin 9)) = ∅ from by decide]; exact Odue_empty c]
    iexact HO
  ihave Hp0 := (show sendPay W c 0 ⊢ pts c ewM qLL (W c) from Entails.refl _) $$ Hp0
  ihave Hp3 := (show sendPay W c 3 ⊢ pts c ewM qLR (W c) from Entails.refl _) $$ Hp3
  ihave Hp6 := (show sendPay W c 6 ⊢ pts c ewB qRL (W c) from Entails.refl _) $$ Hp6
  ihave Hp1 := (show sendPay W c 1 ⊢ pts c (slot1 fwM) qL (FW W c) from Entails.refl _) $$ Hp1
  ihave Hp4 := (show sendPay W c 4 ⊢ pts c (slot1 bwM) qL (BW W c) from Entails.refl _) $$ Hp4
  ihave Hp7 := (show sendPay W c 7 ⊢ c1Part W c qRL (ev c) from Entails.refl _) $$ Hp7
  ihave Hp2 := (show sendPay W c 2 ⊢ pts c (slot2a fwM) qL (FW W c) from Entails.refl _) $$ Hp2
  ihave Hp5 := (show sendPay W c 5 ⊢ pts c (slot2a bwM) qL (BW W c) from Entails.refl _) $$ Hp5
  ihave Hp8 := (show sendPay W c 8 ⊢ c2Part W c qL (ev c) from Entails.refl _) $$ Hp8
  ihave H := (c1_parity W c qRL).2 $$ [Hp7 Hn7]
  · isplitl [Hp7]; · iexact Hp7
    iexact Hn7
  icases H with ⟨Ha, Hb⟩
  ihave Ha := (pts_halves c (slot1 fwM) qR (FW W c)).2 $$ [Ha Hf1]
  · isplitl [Ha]; · iexact Ha
    iexact Hf1
  ihave Hf1 := (pts_halves c (slot1 fwM) fullShare (FW W c)).2 $$ [Hp1 Ha]
  · isplitl [Hp1]; · iexact Hp1
    iexact Ha
  ihave Hb := (pts_halves c (slot1 bwM) qR (BW W c)).2 $$ [Hb Hb1]
  · isplitl [Hb]; · iexact Hb
    iexact Hb1
  ihave Hb1 := (pts_halves c (slot1 bwM) fullShare (BW W c)).2 $$ [Hp4 Hb]
  · isplitl [Hp4]; · iexact Hp4
    iexact Hb
  ihave H := (c2_parity W c qL).2 $$ [Hp8 Hn8]
  · isplitl [Hp8]; · iexact Hp8
    iexact Hn8
  icases H with ⟨Ha, Hb⟩
  ihave Ha := (fw2_halves W c qL).2 $$ [Hp2 Ha]
  · isplitl [Hp2]; · iexact Hp2
    iexact Ha
  ihave Hf2 := (pts_halves c (slot2 fwM) fullShare (FW W c)).2 $$ [Ha Hf2]
  · isplitl [Ha]; · iexact Ha
    iexact Hf2
  ihave Hb := (bw2_halves W c qL).2 $$ [Hp5 Hb]
  · isplitl [Hp5]; · iexact Hp5
    iexact Hb
  ihave Hb2 := (pts_halves c (slot2 bwM) fullShare (BW W c)).2 $$ [Hb Hb2]
  · isplitl [Hb]; · iexact Hb
    iexact Hb2
  isplitl [Hf1 Hf2 Hf3 Hfl]
  · iapply (fw_glue W c ffw)
    isplitl [Hf1]; · iexact Hf1
    isplitl [Hf2]; · iexact Hf2
    isplitl [Hf3]; · iexact Hf3
    iexact Hfl
  isplitl [Hb1 Hb2 Hb3 Hbl]
  · iapply (bw_glue W c fbw)
    isplitl [Hb1]; · iexact Hb1
    isplitl [Hb2]; · iexact Hb2
    isplitl [Hb3]; · iexact Hb3
    iexact Hbl
  isplitl [Hk0]; · iexact Hk0
  isplitl [Hk1]; · iexact Hk1
  isplitl [Hk2]; · iexact Hk2
  isplitl [Hx]; · iexact Hx
  isplitl [Hrw]; · iexact Hrw
  isplitl [Hid]; · iexact Hid
  isplitl [Hp0 Hp3 Hp6 Hel Hew]
  · iapply (pts_halves c ewM fullShare (W c)).2
    isplitl [Hp0 Hp3]
    · iapply (pts_halves c ewM fullShare.left (W c)).2
      isplitl [Hp0]; · iexact Hp0
      iexact Hp3
    iapply (pts_halves c ewM fullShare.right (W c)).2
    isplitl [Hp6 Hel]
    · iapply (ew_halves W c qRL).2
      isplitl [Hp6]; · iexact Hp6
      iexact Hel
    iexact Hew
  isplitl [Hsw]; · iexact Hsw
  iexact Ho

end Body

end Cert.IdealTalk

end

end
-- ==== Proof.Ideal.Point.lean ====
/-
The body as the pipeline calls it: what is staged, what is held before and after.
-/
module

public import proofs.«01_k».proof.Proof.Ideal.Body

@[expose] public section

noncomputable section

namespace Cert.IdealTalk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: counters at zero. -/
abbrev s₀ : MemSt nD τ sig (Elt F) := ⟨m, fun _ => 0, ρ⟩

/-! ## What is staged -/

/-- The tokens staged on a device, -/
def xS (c : Dev nD) : (cc0_stg0_0 : Ref sig .tc).ty.Contents (Elt F) :=
  (win0_0.blk (0 : Fin 1)).view.read (Elt F) ((s₀ m ρ).mem ((c : Thread nD τ).loc main_arg0))
/-- the router weights, -/
def rwS (c : Dev nD) : (cc0_stg1_0 : Ref sig .tc).ty.Contents (Elt F) :=
  (win0_1.blk (0 : Fin 1)).view.read (Elt F) ((s₀ m ρ).mem ((c : Thread nD τ).loc main_arg1))
/-- the named experts, -/
def idS (c : Dev nD) : (cc0_stg2_0 : Ref sig .tc).ty.Contents (Elt F) :=
  (win0_2.blk (0 : Fin 1)).view.read (Elt F) ((s₀ m ρ).mem ((c : Thread nD τ).loc main_arg2))
/-- the expert weights, -/
def ewS (c : Dev nD) : (cc0_stg3_0 : Ref sig .tc).ty.Contents (Elt F) :=
  (win0_3.blk (0 : Fin 1)).view.read (Elt F) ((s₀ m ρ).mem ((c : Thread nD τ).loc main_arg3))
/-- and the shared weights. -/
def swS (c : Dev nD) : (cc0_stg4_0 : Ref sig .tc).ty.Contents (Elt F) :=
  (win0_4.blk (0 : Fin 1)).view.read (Elt F) ((s₀ m ρ).mem ((c : Thread nD τ).loc main_arg4))

/-- The result of device `c`. -/
def resS (c : Dev nD) : (cc0_stg5_0 : Ref sig .tc).ty.Contents (Elt F) := outAt (ewS m ρ) c (xS m ρ c) (rwS m ρ c) (idS m ρ c) (swS m ρ c)

/-- What device `c`'s body starts from besides its buffers. -/
def start (c : Dev nD) : sProp 𝕄 := iprop((∃ K, ghost (ewS m ρ) K c) ∗ credits c ∗ levAts L lv)

/-- The five scratch buffers, holding anything. -/
def scr (c : Dev nD) : sProp 𝕄 :=
  iprop((∃ f, (((c : Thread nD τ).loc cc0_scratch0) ↦{fullShare} f)) ∗ (∃ f, (((c : Thread nD τ).loc cc0_scratch1) ↦{fullShare} f))
    ∗ (∃ f, (((c : Thread nD τ).loc cc0_scratch2) ↦{fullShare} f)) ∗ (∃ f, (((c : Thread nD τ).loc cc0_scratch3) ↦{fullShare} f))
    ∗ (∃ f, (((c : Thread nD τ).loc cc0_scratch4) ↦{fullShare} f)))

/-- Before the body, -/
def Φ₀ (c : Dev nD) : sProp 𝕄 := iprop(start m ρ c ∗ scr c)
/-- and after it. -/
def Φ₁ (c : Dev nD) : sProp 𝕄 := iprop(scr c ∗ zeros c)

/-- What the pipeline is told about device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m ρ c
    | ⟨1, _⟩ => rwS m ρ c
    | ⟨2, _⟩ => idS m ρ c
    | ⟨3, _⟩ => ewS m ρ c
    | ⟨4, _⟩ => swS m ρ c
    | ⟨5, _⟩ => resS m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- Owning a whole buffer. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem pw_stg0_0 (c : Dev nD) (f : (cc0_stg0_0 : Ref sig .tc).ty.Contents (Elt F)) :
    (pts c xM fullShare f : sProp 𝕄) = (((c : Thread nD τ).loc cc0_stg0_0) ↦{fullShare} f) := by
  show (xM.view.loc (c : Thread nD τ) ↦[xM.view.set]{fullShare} f : sProp 𝕄) = _
  rw [show xM.view.set = Finset.univ from View.set_whole _]
omit [FloatOps F] in
theorem pw_stg1_0 (c : Dev nD) (f : (cc0_stg1_0 : Ref sig .tc).ty.Contents (Elt F)) :
    (pts c rwM fullShare f : sProp 𝕄) = (((c : Thread nD τ).loc cc0_stg1_0) ↦{fullShare} f) := by
  show (rwM.view.loc (c : Thread nD τ) ↦[rwM.view.set]{fullShare} f : sProp 𝕄) = _
  rw [show rwM.view.set = Finset.univ from View.set_whole _]
omit [FloatOps F] in
theorem pw_stg2_0 (c : Dev nD) (f : (cc0_stg2_0 : Ref sig .tc).ty.Contents (Elt F)) :
    (pts c idM fullShare f : sProp 𝕄) = (((c : Thread nD τ).loc cc0_stg2_0) ↦{fullShare} f) := by
  show (idM.view.loc (c : Thread nD τ) ↦[idM.view.set]{fullShare} f : sProp 𝕄) = _
  rw [show idM.view.set = Finset.univ from View.set_whole _]
omit [FloatOps F] in
theorem pw_stg3_0 (c : Dev nD) (f : (cc0_stg3_0 : Ref sig .tc).ty.Contents (Elt F)) :
    (pts c ewM fullShare f : sProp 𝕄) = (((c : Thread nD τ).loc cc0_stg3_0) ↦{fullShare} f) := by
  show (ewM.view.loc (c : Thread nD τ) ↦[ewM.view.set]{fullShare} f : sProp 𝕄) = _
  rw [show ewM.view.set = Finset.univ from View.set_whole _]
omit [FloatOps F] in
theorem pw_stg4_0 (c : Dev nD) (f : (cc0_stg4_0 : Ref sig .tc).ty.Contents (Elt F)) :
    (pts c swM fullShare f : sProp 𝕄) = (((c : Thread nD τ).loc cc0_stg4_0) ↦{fullShare} f) := by
  show (swM.view.loc (c : Thread nD τ) ↦[swM.view.set]{fullShare} f : sProp 𝕄) = _
  rw [show swM.view.set = Finset.univ from View.set_whole _]
omit [FloatOps F] in
theorem pw_stg5_0 (c : Dev nD) (f : (cc0_stg5_0 : Ref sig .tc).ty.Contents (Elt F)) :
    (pts c oM fullShare f : sProp 𝕄) = (((c : Thread nD τ).loc cc0_stg5_0) ↦{fullShare} f) := by
  show (oM.view.loc (c : Thread nD τ) ↦[oM.view.set]{fullShare} f : sProp 𝕄) = _
  rw [show oM.view.set = Finset.univ from View.set_whole _]
omit [FloatOps F] in
theorem pw_scratch0 (c : Dev nD) (f : (cc0_scratch0 : Ref sig .tc).ty.Contents (Elt F)) :
    (pts c fwM fullShare f : sProp 𝕄) = (((c : Thread nD τ).loc cc0_scratch0) ↦{fullShare} f) := by
  show (fwM.view.loc (c : Thread nD τ) ↦[fwM.view.set]{fullShare} f : sProp 𝕄) = _
  rw [show fwM.view.set = Finset.univ from View.set_whole _]
omit [FloatOps F] in
theorem pw_scratch1 (c : Dev nD) (f : (cc0_scratch1 : Ref sig .tc).ty.Contents (Elt F)) :
    (pts c bwM fullShare f : sProp 𝕄) = (((c : Thread nD τ).loc cc0_scratch1) ↦{fullShare} f) := by
  show (bwM.view.loc (c : Thread nD τ) ↦[bwM.view.set]{fullShare} f : sProp 𝕄) = _
  rw [show bwM.view.set = Finset.univ from View.set_whole _]
omit [FloatOps F] in
theorem pw_scratch2 (c : Dev nD) (f : (cc0_scratch2 : Ref sig .tc).ty.Contents (Elt F)) :
    (pts c c0M fullShare f : sProp 𝕄) = (((c : Thread nD τ).loc cc0_scratch2) ↦{fullShare} f) := by
  show (c0M.view.loc (c : Thread nD τ) ↦[c0M.view.set]{fullShare} f : sProp 𝕄) = _
  rw [show c0M.view.set = Finset.univ from View.set_whole _]
omit [FloatOps F] in
theorem pw_scratch3 (c : Dev nD) (f : (cc0_scratch3 : Ref sig .tc).ty.Contents (Elt F)) :
    (pts c c1M fullShare f : sProp 𝕄) = (((c : Thread nD τ).loc cc0_scratch3) ↦{fullShare} f) := by
  show (c1M.view.loc (c : Thread nD τ) ↦[c1M.view.set]{fullShare} f : sProp 𝕄) = _
  rw [show c1M.view.set = Finset.univ from View.set_whole _]
omit [FloatOps F] in
theorem pw_scratch4 (c : Dev nD) (f : (cc0_scratch4 : Ref sig .tc).ty.Contents (Elt F)) :
    (pts c c2M fullShare f : sProp 𝕄) = (((c : Thread nD τ).loc cc0_scratch4) ↦{fullShare} f) := by
  show (c2M.view.loc (c : Thread nD τ) ↦[c2M.view.set]{fullShare} f : sProp 𝕄) = _
  rw [show c2M.view.set = Finset.univ from View.set_whole _]

section Body
variable (c : Dev nD)

/-- Before the one point, -/
def bodyPre : sProp 𝕄 :=
  iprop(Φ₀ m ρ c ∗ (dats m ρ 0 c).owesAt () t0_0.castSucc
    ∗ (∃ d, held c cc0_stg0_0 ((dats m ρ 0 c).before (0 : Fin 6) t0_0 d))
    ∗ (∃ d, held c cc0_stg1_0 ((dats m ρ 0 c).before (1 : Fin 6) t0_0 d))
    ∗ (∃ d, held c cc0_stg2_0 ((dats m ρ 0 c).before (2 : Fin 6) t0_0 d))
    ∗ (∃ d, held c cc0_stg3_0 ((dats m ρ 0 c).before (3 : Fin 6) t0_0 d))
    ∗ (∃ d, held c cc0_stg4_0 ((dats m ρ 0 c).before (4 : Fin 6) t0_0 d))
    ∗ (∃ d, held c cc0_stg5_0 ((dats m ρ 0 c).before (5 : Fin 6) t0_0 d)))
/-- and after it. -/
def bodyPost : sProp 𝕄 :=
  iprop(Φ₁ c ∗ (dats m ρ 0 c).owesAt () t0_0.succ
    ∗ held c cc0_stg0_0 (xS m ρ c) ∗ held c cc0_stg1_0 (rwS m ρ c) ∗ held c cc0_stg2_0 (idS m ρ c)
    ∗ held c cc0_stg3_0 (ewS m ρ c) ∗ held c cc0_stg4_0 (swS m ρ c) ∗ held c cc0_stg5_0 (resS m ρ c))

set_option maxHeartbeats 2000000 in
set_option maxRecDepth 4000 in
/-- The body between them. -/
theorem body_held : bodyPre m ρ c ⊢ wp frame (wpE (defs₀ (F := F)) 𝒱₀ (c : Thread nD τ) none) Set.univ
    (cc0_body (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6)
    (fun _ => bodyPost m ρ c) := by
  unfold bodyPre Φ₀ start scr
  iintro ⟨⟨⟨⟨%K, Hg⟩, Hc, #Hlev⟩, ⟨%f0, H0⟩, ⟨%f1, H1⟩, ⟨%f2, H2⟩, ⟨%f3, H3⟩, ⟨%f4, H4⟩⟩, HO,
    ⟨%d0, %g0, %hg0, Hx⟩, ⟨%d1, %g1, %hg1, Hrw⟩, ⟨%d2, %g2, %hg2, Hid⟩, ⟨%d3, %g3, %hg3, Hew⟩, ⟨%d4, %g4, %hg4, Hsw⟩, ⟨%d5, %g5, %hg5, Ho⟩⟩
  have h0 : g0 = xS m ρ c := by rw [hg0]; unfold Dat.before; rw [if_pos (fetch0_0 t0_0)]; rfl
  subst h0
  have h1 : g1 = rwS m ρ c := by rw [hg1]; unfold Dat.before; rw [if_pos (fetch0_1 t0_0)]; rfl
  subst h1
  have h2 : g2 = idS m ρ c := by rw [hg2]; unfold Dat.before; rw [if_pos (fetch0_2 t0_0)]; rfl
  subst h2
  have h3 : g3 = ewS m ρ c := by rw [hg3]; unfold Dat.before; rw [if_pos (fetch0_3 t0_0)]; rfl
  subst h3
  have h4 : g4 = swS m ρ c := by rw [hg4]; unfold Dat.before; rw [if_pos (fetch0_4 t0_0)]; rfl
  subst h4
  unfold Dat.owesAt Pipeline.owesWithin
  icases HO with ⟨%V, %hV, HO⟩
  ihave H0 := (Entails.of_eq (pw_scratch0 c _).symm) $$ H0
  ihave H1 := (Entails.of_eq (pw_scratch1 c _).symm) $$ H1
  ihave H2 := (Entails.of_eq (pw_scratch2 c _).symm) $$ H2
  ihave H3 := (Entails.of_eq (pw_scratch3 c _).symm) $$ H3
  ihave H4 := (Entails.of_eq (pw_scratch4 c _).symm) $$ H4
  ihave Hx := (Entails.of_eq (pw_stg0_0 c _).symm) $$ Hx
  ihave Hrw := (Entails.of_eq (pw_stg1_0 c _).symm) $$ Hrw
  ihave Hid := (Entails.of_eq (pw_stg2_0 c _).symm) $$ Hid
  ihave Hew := (Entails.of_eq (pw_stg3_0 c _).symm) $$ Hew
  ihave Hsw := (Entails.of_eq (pw_stg4_0 c _).symm) $$ Hsw
  ihave Ho := (Entails.of_eq (pw_stg5_0 c _).symm) $$ Ho
  iapply (wp_body (ewS m ρ) K c (xS m ρ c) (rwS m ρ c) (idS m ρ c) (swS m ρ c) g5 f0 f1 f2 f3 f4 _) $$ [Hg Hc HO H0 H1 H2 H3 H4 Hx Hrw Hid Hew Hsw Ho]
  · isplitl [Hg]; · iexact Hg
    isplitl [Hc]; · iexact Hc
    isplitr; · iexact Hlev
    isplitl [HO]; · unfold own; iexists V; iexact HO
    isplitl [H0]; · iexact H0
    isplitl [H1]; · iexact H1
    isplitl [H2]; · iexact H2
    isplitl [H3]; · iexact H3
    isplitl [H4]; · iexact H4
    isplitl [Hx]; · iexact Hx
    isplitl [Hrw]; · iexact Hrw
    isplitl [Hid]; · iexact Hid
    isplitl [Hew]; · iexact Hew
    isplitl [Hsw]; · iexact Hsw
    iexact Ho
  iintro ⟨Hz, HO, ⟨%f0, H0⟩, ⟨%f1, H1⟩, H2, H3, H4, Hx, Hrw, Hid, Hew, Hsw, Ho⟩
  ihave H2 := (Entails.of_eq (pw_scratch2 c _)) $$ H2
  ihave H3 := (Entails.of_eq (pw_scratch3 c _)) $$ H3
  ihave H4 := (Entails.of_eq (pw_scratch4 c _)) $$ H4
  ihave Hx := (Entails.of_eq (pw_stg0_0 c _)) $$ Hx
  ihave Hrw := (Entails.of_eq (pw_stg1_0 c _)) $$ Hrw
  ihave Hid := (Entails.of_eq (pw_stg2_0 c _)) $$ Hid
  ihave Hew := (Entails.of_eq (pw_stg3_0 c _)) $$ Hew
  ihave Hsw := (Entails.of_eq (pw_stg4_0 c _)) $$ Hsw
  ihave Ho := (Entails.of_eq (pw_stg5_0 c _)) $$ Ho
  unfold bodyPost Φ₁ scr Dat.owesAt Pipeline.owesWithin own
  icases HO with ⟨%V, HO⟩
  isplitl [Hz H0 H1 H2 H3 H4]
  · isplitl [H0 H1 H2 H3 H4]
    · isplitl [H0]; · iexists _; iexact H0
      isplitl [H1]; · iexists _; iexact H1
      isplitl [H2]; · iexists _; iexact H2
      isplitl [H3]; · iexists _; iexact H3
      iexists _; iexact H4
    iexact Hz
  isplitl [HO]
  · iexists V
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hid]
  · iexists _; isplitr; · (ipureintro; rfl)
    iexact Hid
  isplitl [Hew]
  · iexists _; isplitr; · (ipureintro; rfl)
    iexact Hew
  isplitl [Hsw]
  · iexists _; isplitr; · (ipureintro; rfl)
    iexact Hsw
  iexists _; isplitr; · (ipureintro; rfl)
  iexact Ho

set_option maxRecDepth 4000 in
/-- The pipeline's obligation. -/
theorem body_ok : BodyObligation (dats (F := F) m ρ 0 c) (defs₀ (F := F)) 𝒱₀ () Set.univ := fun t => by
  rw [fin_N0 t]
  rw [bigSep_W0, bigSep_W0]
  simp only [owns_eq]
  rw [show defs₀ (F := F) Proc.tc 0 (t0_0, cfg0.slots t0_0) = cc0_body (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6 from rfl]
  have hΦ : (dats m ρ 0 c).Φ t0_0.castSucc = Φ₀ m ρ c := rfl
  have hΨ : (dats m ρ 0 c).Φ t0_0.succ = Φ₁ c := rfl
  have h0 : (dats m ρ 0 c).after (0 : Fin 6) t0_0 = xS m ρ c := rfl
  have h1 : (dats m ρ 0 c).after (1 : Fin 6) t0_0 = rwS m ρ c := rfl
  have h2 : (dats m ρ 0 c).after (2 : Fin 6) t0_0 = idS m ρ c := rfl
  have h3 : (dats m ρ 0 c).after (3 : Fin 6) t0_0 = ewS m ρ c := rfl
  have h4 : (dats m ρ 0 c).after (4 : Fin 6) t0_0 = swS m ρ c := rfl
  have h5 : (dats m ρ 0 c).after (5 : Fin 6) t0_0 = resS m ρ c := rfl
  rw [hΦ, hΨ, h0, h1, h2, h3, h4, h5]
  have h := body_held m ρ c
  have h := body_held m ρ c
  revert h
  generalize (cc0_body (F := F) xM (Memref.isWhole_whole _) rwM (Memref.isWhole_whole _) idM (Memref.isWhole_whole _) ewM (Memref.isWhole_whole _) swM (Memref.isWhole_whole _) oM (Memref.isWhole_whole _) fwM (Memref.isWhole_whole _) bwM (Memref.isWhole_whole _) c0M (Memref.isWhole_whole _) c1M (Memref.isWhole_whole _) c2M (Memref.isWhole_whole _) cc0_scratch5 cc0_scratch6) = p
  intro h
  unfold bodyPre bodyPost at h
  exact h
end Body

end Cert.IdealTalk

end

end
-- ==== Proof.Ideal.Launch.lean ====
/-
The launch: what each device starts from is dealt out of one initial state, the body runs on every device, and what the
runs leave is read off.
-/
module

public import Idealize.ShloMosaic.Lib.Pipeline.CollectiveSegs
public import proofs.«01_k».proof.Proof.Ideal.Point

@[expose] public section

noncomputable section

namespace Cert.IdealTalk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores are the eighteen of the copies. -/
theorem own_sems : Pipeline.OwnSemFacts cfg0.spec osem := by decide
/-- Every window's array is held in full. -/
theorem share_full (c : Dev nD) (w : Fin cfg0.W) : (dats m ρ 0 c).share w = fullShare := by unfold Dat.share; split <;> rfl

/-- Different devices and semaphores are different cells. -/
theorem kcell_inj : Function.Injective (kcell : Dev nD × Fin 19 → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← kindOf_csem k, ← kindOf_csem k', h2]
  rw [h1, Option.some.inj h3]
/-- All cells of the exchange. -/
def cells : Finset (GSem nD τ sig) := Finset.univ.map ⟨kcell, kcell_inj⟩
/-- A token for each cell and each name of a duty. -/
abbrev tok (x : (Dev nD × Fin 19) × Fin 3) : GSem nD τ sig × ℕ × Fin 3 := (kcell x.1, 0, x.2)
/-- Different duties have different tokens. -/
theorem tok_inj : Function.Injective tok := by
  rintro ⟨a, d⟩ ⟨b, e⟩ h
  have h1 : a = b := kcell_inj (congrArg Prod.fst h)
  have h2 : d = e := congrArg (fun x => x.2.2) h
  rw [h1, h2]
/-- The tokens of all duties. -/
def allToks : Finset (GSem nD τ sig × ℕ × Fin 3) := Finset.univ.map ⟨tok, tok_inj⟩
/-- The initial element: the pipeline's part and the exchange's. -/
def u₀ : UU := (initOf (Pipeline.cells cfgs cellOf_inj) (Pipeline.launchToks cfgs cellOf_inj), initOf cells allToks)

/-- The cells of a device are its barrier's, the nine outgoing and the nine incoming ones. -/
def kinds : Unit ⊕ (Fin 9 ⊕ Fin 9) ≃ Fin 19 :=
  Equiv.ofBijective (Sum.elim (fun _ => 0) (Sum.elim sndK rcvK)) (by decide)
omit [FloatOps F] in
/-- A product over a device's semaphores: the barrier, the nine sends and the nine arrivals. -/
theorem nineteen (Φ : Fin 19 → sProp 𝕄) : bigSep Finset.univ Φ
    = iprop(Φ 0 ∗ bigSep Finset.univ (fun i => Φ (sndK i)) ∗ bigSep Finset.univ (fun i => Φ (rcvK i))) := by
  rw [bigSep_univ_equiv kinds Φ, bigSep_univ_sum, bigSep_univ_sum]
  congr 1
  rw [show (Finset.univ : Finset Unit) = {()} from rfl, bigSep_singleton]; rfl

/-- The duty tokens of device `c`'s own cells. -/
def toks (c : Dev nD) : sProp 𝕄 :=
  bigSep Finset.univ fun k : Fin 19 => bigSep Finset.univ fun d : Fin 3 => dutyTok ER (kcell (c, k)) 0 d

/-- What the initial element deals device `c`. -/
def G (c : Dev nD) : sProp 𝕄 :=
  iprop((bigSep Finset.univ fun k : Fin 19 => roundState ER (Rd (ewS m ρ)) (kcell (c, k)) 0)
    ∗ (bigSep Finset.univ fun k : Fin 19 => iprop(atPos ER (kcell (c, k)) 0 ∅ 0 ∗ reached ER (kcell (c, k)) 0)) ∗ toks c)
/-- What the devices make of it together. -/
def G' (c : Dev nD) : sProp 𝕄 := iprop(∃ K, ghost (ewS m ρ) K c)

omit [FloatOps F] in
/-- The launch deals every device its positions and tokens. -/
theorem deal : BI.own (ER (initOf cells allToks)) ⊢ (|==> bigSep Finset.univ (G m ρ) : sProp 𝕄) := by
  have hX (Φ : GSem nD τ sig → sProp 𝕄) : bigSep cells Φ = bigSep Finset.univ fun c : Dev nD => bigSep Finset.univ fun k : Fin 19 => Φ (kcell (c, k)) := by
    unfold cells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (Rd (ewS m ρ)) cells allToks) $$ HX with ⟨Hst, Hr, Hat, Htok⟩
  imodintro
  ihave Hst' := (Entails.of_eq (hX fun g => roundState ER (Rd (ewS m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · iexact Hat'
    iexact Hr'
  iexact Htok'

/-! ## The semaphores at zero -/

/-- The kernel's own eighteen are the nine outgoing and the nine incoming ones. -/
def eighteen : Fin 9 ⊕ Fin 9 ≃ Fin 18 :=
  Equiv.ofBijective (Sum.elim (fun i => ⟨i.val, by omega⟩) (fun i => ⟨i.val + 9, by omega⟩)) (by decide)
/-- The first nine own semaphores are the sends', -/
theorem osem_snd (i : Fin 9) : osem (eighteen (.inl i)) = .dma (sendSem i) := by revert i; decide
/-- the last nine the arrivals'. -/
theorem osem_rcv (i : Fin 9) : osem (eighteen (.inr i)) = .dma (recvSem i) := by revert i; decide

omit [FloatOps F] in
/-- The own counters at zero, as sends and arrivals. -/
theorem ownSems_eq (c : Dev nD) : (Pipeline.ownSems0 (Ix := Unit) (Name := ℕ) (U := UU) (Lvl := ℕ) (Val := Elt F) (τ := τ) osem c : sProp 𝕄)
    = iprop(bigSep Finset.univ (fun i => semVal (sendCell c i) 0) ∗ bigSep Finset.univ (fun i => semVal (recvCell c i) 0)) := by
  have h : (Pipeline.ownSems0 (Ix := Unit) (Name := ℕ) (U := UU) (Lvl := ℕ) (Val := Elt F) (τ := τ) osem c : sProp 𝕄)
      = bigSep Finset.univ fun k : Fin 18 => semVal ((c : Thread nD τ), osem k) 0 := rfl
  rw [h, bigSep_univ_equiv eighteen, bigSep_univ_sum]
  simp only [osem_snd, osem_rcv]
  rfl
omit [FloatOps F] in
/-- The remaining counter is the barrier's. -/
theorem barSem_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- All nineteen counters at zero, one by one. -/
theorem zeros_all (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems_eq, barSem_eq, nineteen]
  simp only [kcell_bar, kcell_send, kcell_recv]
  iintro ⟨⟨HS, HV⟩, HB⟩
  isplitl [HB]; · iexact HB
  isplitl [HS]; · iexact HS
  iexact HV

/-! ## Everything dealt out -/

omit [FloatOps F] in
/-- From zero counters every cell's invariant is set up. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (ewS m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (zeros_all (F := F) c) $$ [Hos Hus]
  · isplitl [Hos]
    · iexact Hos
    iexact Hus
  imod (show iprop((bigSep Finset.univ fun k : Fin 19 => semVal (kcell (c, k)) 0) ∗ bigSep Finset.univ fun k : Fin 19 => roundState ER (Rd (ewS m ρ)) (kcell (c, k)) 0)
      ⊢ (|={Set.univ}=> bigSep Finset.univ fun k => iprop(∃ κ : ℕ, cellInv ER (Rd (ewS m ρ)) κ (kcell (c, k))) : sProp 𝕄) from by
        rw [← bigSep_sep']
        exact (bigSep_mono fun k _ => (Rounds.body_intro ER (Rd (ewS m ρ)) (kcell (c, k))).trans inv_alloc).trans (bigSep_fupd _ _)) $$ [Hv Hst] with Hinv
  · isplitl [Hv]
    · iexact Hv
    iexact Hst
  imodintro
  isplitl [Hinv]; · iexact Hinv
  isplitl [Hat]; · iexact Hat
  iexact Htok

/-- All invariants, and that all cells are in their one round. -/
def known (K : Dev nD × Fin 19 → ℕ) : sProp 𝕄 :=
  iprop((bigSep Finset.univ fun ck : Dev nD × Fin 19 => cellInv ER (Rd (ewS m ρ)) (K ck) (kcell ck))
    ∗ bigSep Finset.univ fun ck : Dev nD × Fin 19 => reached ER (kcell ck) 0)
/-- What every device knows may be used again and again. -/
instance known_persistent (K : Dev nD × Fin 19 → ℕ) : BI.Persistent (known m ρ K) := by unfold known; infer_instance

omit [FloatOps F] in
/-- It holds the invariant of each cell, and that its first round is reached. -/
theorem known_at (K : Dev nD × Fin 19 → ℕ) (ck : Dev nD × Fin 19) (g : GSem nD τ sig) (h : kcell ck = g) :
    known m ρ K ⊢ iprop(cellInv ER (Rd (ewS m ρ)) (K ck) g ∗ reached ER g 0) := by
  subst h
  unfold known
  exact BIClass.sep_mono (bigSep_elim (Finset.mem_univ ck)) (bigSep_elim (Finset.mem_univ ck))

/-- The tokens device `c` pays with. -/
def payToks (c : Dev nD) : sProp 𝕄 :=
  iprop(dutyTok ER (barCell (left c)) 0 0 ∗ dutyTok ER (barCell (right c)) 0 1 ∗ dutyTok ER (barCell (partner c)) 0 2
    ∗ bigSep Finset.univ (fun i => dutyTok ER (sendCell c i) 0 0) ∗ bigSep Finset.univ (fun i => dutyTok ER (recvCell (tgt i c) i) 0 0))
/-- With its positions. -/
def mine (c : Dev nD) : sProp 𝕄 :=
  iprop((bigSep Finset.univ fun k : Fin 19 => atPos ER (kcell (c, k)) 0 ∅ 0) ∗ payToks c)

omit [FloatOps F] in
/-- A reusable fact goes to every member of a product. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- What a barrier signal needs. -/
theorem mk_sig (K : Dev nD × Fin 19 → ℕ) (n : Dev nD) (d : Fin 3) : iprop(known m ρ K ∗ dutyTok ER (barCell n) 0 d) ⊢ sigG (ewS m ρ) K n d := by
  unfold sigG
  iintro ⟨#H, Ht⟩
  ihave Hk := (known_at m ρ K (n, 0) _ (kcell_bar n)) $$ H
  icases Hk with ⟨HI, HR⟩
  isplitl [HI]; · iexact HI
  isplitl [Ht]; · iexact Ht
  iexact HR
omit [FloatOps F] in
/-- What a copy needs. -/
theorem mk_xfer (K : Dev nD × Fin 19 → ℕ) (c : Dev nD) (i : Fin 9) :
    iprop(known m ρ K ∗ (dutyTok ER (sendCell c i) 0 0 ∗ dutyTok ER (recvCell (tgt i c) i) 0 0)) ⊢ xferG (ewS m ρ) K c i := by
  unfold xferG
  iintro ⟨#H, Ht, Hu⟩
  ihave Hk := (known_at m ρ K (c, sndK i) _ (kcell_send c i)) $$ H
  icases Hk with ⟨HI, HR⟩
  ihave Hk := (known_at m ρ K (tgt i c, rcvK i) _ (kcell_recv (tgt i c) i)) $$ H
  icases Hk with ⟨HI', HR'⟩
  isplitl [HI]; · iexact HI
  isplitl [HI']; · iexact HI'
  isplitl [Ht]; · iexact Ht
  isplitl [HR]; · iexact HR
  isplitl [Hu]; · iexact Hu
  iexact HR'
omit [FloatOps F] in
/-- What waiting for a send needs. -/
theorem mk_out (K : Dev nD × Fin 19 → ℕ) (c : Dev nD) (i : Fin 9) : iprop(known m ρ K ∗ atPos ER (sendCell c i) 0 ∅ 0) ⊢ outG (ewS m ρ) K c i := by
  unfold outG
  iintro ⟨#H, Ht⟩
  ihave Hk := (known_at m ρ K (c, sndK i) _ (kcell_send c i)) $$ H
  icases Hk with ⟨HI, HR⟩
  isplitl [HI]; · iexact HI
  iexact Ht
omit [FloatOps F] in
/-- What waiting for an arrival needs. -/
theorem mk_in (K : Dev nD × Fin 19 → ℕ) (c : Dev nD) (i : Fin 9) : iprop(known m ρ K ∗ atPos ER (recvCell c i) 0 ∅ 0) ⊢ inG (ewS m ρ) K c i := by
  unfold inG
  iintro ⟨#H, Ht⟩
  ihave Hk := (known_at m ρ K (c, rcvK i) _ (kcell_recv c i)) $$ H
  icases Hk with ⟨HI, HR⟩
  isplitl [HI]; · iexact HI
  iexact Ht

omit [FloatOps F] in
/-- What a device's body needs, altogether. -/
theorem mk_ghost (K : Dev nD × Fin 19 → ℕ) (c : Dev nD) : iprop(known m ρ K ∗ mine c) ⊢ G' m ρ c := by
  unfold mine payToks G' ghost
  rw [nineteen]
  simp only [kcell_bar, kcell_send, kcell_recv]
  iintro ⟨#H, ⟨HaB, HaS, HaR⟩, Ht0, Ht1, Ht2, HtS, HtR⟩
  iexists K
  isplitl [Ht0]
  · iapply (mk_sig m ρ K (left c) 0); isplitr; · iexact H
    iexact Ht0
  isplitl [Ht1]
  · iapply (mk_sig m ρ K (right c) 1); isplitr; · iexact H
    iexact Ht1
  isplitl [Ht2]
  · iapply (mk_sig m ρ K (partner c) 2); isplitr; · iexact H
    iexact Ht2
  isplitl [HaB]
  · unfold barG
    ihave Hk := (known_at m ρ K (c, 0) _ (kcell_bar c)) $$ H
    icases Hk with ⟨HI, HR⟩
    isplitl [HI]; · iexact HI
    iexact HaB
  isplitl [HtS HtR]
  · iapply (with_known (R := known m ρ K) (fun i _ => mk_xfer m ρ K c i))
    isplitr; · iexact H
    rw [bigSep_sep']
    isplitl [HtS]; · iexact HtS
    iexact HtR
  isplitl [HaS]
  · iapply (with_known (R := known m ρ K) (fun i _ => mk_out m ρ K c i))
    isplitr; · iexact H
    iexact HaS
  iapply (with_known (R := known m ρ K) (fun i _ => mk_in m ρ K c i))
  isplitr; · iexact H
  iexact HaR

/-- Every device is one device's left neighbour. -/
theorem left_bij : Function.Bijective left := by decide
/-- Every device is one device's right neighbour. -/
theorem right_bij : Function.Bijective right := by decide
/-- Every device is one device's partner. -/
theorem partner_bij : Function.Bijective partner := by decide
/-- The devices renumbered. -/
def leftE : Dev nD ≃ Dev nD := Equiv.ofBijective left left_bij
/-- Going right, as a permutation. -/
def rightE : Dev nD ≃ Dev nD := Equiv.ofBijective right right_bij
/-- Going to the partner, as a permutation. -/
def partnerE : Dev nD ≃ Dev nD := Equiv.ofBijective partner partner_bij
/-- Going to a copy's target, as a permutation. -/
def tgtE (i : Fin 9) : Dev nD ≃ Dev nD := ⟨tgt i, org i, org_tgt i, tgt_org i⟩

omit [FloatOps F] in
/-- A product over three, written out. -/
theorem three (Φ : Fin 3 → sProp 𝕄) : bigSep Finset.univ Φ = iprop(Φ 0 ∗ Φ 1 ∗ Φ 2) :=
  bigSep_univ_eq_bigSepL [0, 1, 2] (by decide) (by decide) Φ
omit [FloatOps F] in
/-- A device's tokens, those not used left out. -/
theorem toks_some (c : Dev nD) : (toks c : sProp 𝕄) ⊢
    iprop(dutyTok ER (barCell c) 0 0 ∗ dutyTok ER (barCell c) 0 1 ∗ dutyTok ER (barCell c) 0 2
      ∗ bigSep Finset.univ (fun i => dutyTok ER (sendCell c i) 0 0) ∗ bigSep Finset.univ (fun i => dutyTok ER (recvCell c i) 0 0)) := by
  unfold toks
  rw [nineteen, three]
  simp only [kcell_bar, kcell_send, kcell_recv]
  iintro ⟨⟨H0, H1, H2⟩, HS, HR⟩
  isplitl [H0]; · iexact H0
  isplitl [H1]; · iexact H1
  isplitl [H2]; · iexact H2
  isplitl [HS]
  · iapply (show (bigSep Finset.univ fun i : Fin 9 => bigSep Finset.univ fun d : Fin 3 => (dutyTok ER (sendCell c i) 0 d : sProp 𝕄))
      ⊢ bigSep Finset.univ fun i : Fin 9 => (dutyTok ER (sendCell c i) 0 0 : sProp 𝕄) from bigSep_mono fun i _ => bigSep_elim (Finset.mem_univ (0 : Fin 3))); iexact HS
  iapply (show (bigSep Finset.univ fun i : Fin 9 => bigSep Finset.univ fun d : Fin 3 => (dutyTok ER (recvCell c i) 0 d : sProp 𝕄))
      ⊢ bigSep Finset.univ fun i : Fin 9 => (dutyTok ER (recvCell c i) 0 0 : sProp 𝕄) from bigSep_mono fun i _ => bigSep_elim (Finset.mem_univ (0 : Fin 3))); iexact HR

omit [FloatOps F] in
/-- Every token goes to the device that pays with it. -/
theorem toks_paid : (bigSep Finset.univ fun c : Dev nD => (toks c : sProp 𝕄)) ⊢ (bigSep Finset.univ fun c : Dev nD => payToks c : sProp 𝕄) := by
  refine (bigSep_mono fun c _ => toks_some c).trans ?_
  unfold payToks
  rw [bigSep_sep', bigSep_sep', bigSep_sep', bigSep_sep', bigSep_sep', bigSep_sep', bigSep_sep', bigSep_sep',
    bigSep_univ_equiv leftE (fun c : Dev nD => (dutyTok ER (barCell c) 0 0 : sProp 𝕄)),
    bigSep_univ_equiv rightE (fun c : Dev nD => (dutyTok ER (barCell c) 0 1 : sProp 𝕄)),
    bigSep_univ_equiv partnerE (fun c : Dev nD => (dutyTok ER (barCell c) 0 2 : sProp 𝕄)),
    Pipeline.bigSep_univ_comm (fun (c : Dev nD) (i : Fin 9) => (dutyTok ER (recvCell c i) 0 0 : sProp 𝕄)),
    bigSep_congr (s := Finset.univ) (fun (i : Fin 9) _ => bigSep_univ_equiv (tgtE i) (fun c : Dev nD => (dutyTok ER (recvCell c i) 0 0 : sProp 𝕄))),
    Pipeline.bigSep_univ_comm (fun (i : Fin 9) (c : Dev nD) => (dutyTok ER (recvCell (tgtE i c) i) 0 0 : sProp 𝕄))]
  exact Entails.refl _

omit [FloatOps F] in
/-- The tokens move from the cell they are of to the device that pays. -/
theorem regroup :
    (bigSep Finset.univ fun c : Dev nD => iprop((bigSep Finset.univ fun k => iprop(∃ κ : ℕ, cellInv ER (Rd (ewS m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 19 => iprop(∃ κ : ℕ, cellInv ER (Rd (ewS m ρ)) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd (ewS m ρ)) κ (kcell ck) : sProp 𝕄))) $$ HI
  icases HK with ⟨%K, #HI⟩
  ihave Htk := (toks_paid (F := F)) $$ Htok
  iapply (with_known (R := known m ρ K) fun c _ => mk_ghost m ρ K c)
  isplitr
  · unfold known; isplitl; · iexact HI
    iexact HR
  · unfold mine
    rw [bigSep_sep']
    isplitl [Hat]; · iexact Hat
    iexact Htk

omit [FloatOps F] in
/-- The launch as a whole: every device ends with what its body needs. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (regroup m ρ))

/-! ## The credit at launch -/

/-- Barrier cells are of one device each. -/
theorem barCell_inj {a b : Dev nD} (h : barCell a = barCell b) : a = b := congrArg (fun g : GSem nD τ sig => g.1.1) h
/-- Arrival cells are of one device and copy each. -/
theorem recvCell_inj {a b : Dev nD} {i j : Fin 9} (h : recvCell a i = recvCell b j) : a = b ∧ i = j := by
  refine ⟨congrArg (fun g : GSem nD τ sig => g.1.1) h, ?_⟩
  have h2 := congrArg (fun g : GSem nD τ sig => kindOf g.2) h
  have h3 : rcvK i = rcvK j := Option.some.inj ((kindOf_recv i).symm.trans (h2.trans (kindOf_recv j)))
  have h4 : i.val + 10 = j.val + 10 := congrArg Fin.val h3
  exact Fin.ext (by omega)
/-- An arrival cell is no barrier cell. -/
theorem recv_ne_bar (a b : Dev nD) (i : Fin 9) : recvCell a i ≠ barCell b := fun h => by
  have h2 := congrArg (fun g : GSem nD τ sig => g.2) h
  cases h2

omit [FloatOps F] in
/-- To a barrier cell each of its device's three neighbours owes one. -/
theorem owes_bar (d c : Dev nD) : O₀ d (barCell c) () = (if d = left c then 1 else 0) + (if d = partner c then 1 else 0) + (if d = right c then 1 else 0) := by
  have h0 : Odue Finset.univ d (barCell c) () = 0 := by
    by_contra h
    obtain ⟨i, -, hi⟩ := Odue_pos (Nat.pos_of_ne_zero h)
    exact recv_ne_bar _ _ _ hi.symm
  have e1 : ∀ (f g : Dev nD → Dev nD) (hfg : ∀ a, f (g a) = a) (hgf : ∀ a, g (f a) = a),
      (tallyAt (barCell (f d)) () 1 : CellTallies nD τ sig Unit) (barCell c) () = if d = g c then 1 else 0 := fun f g hfg hgf => by
    rw [tallyAt_apply]
    by_cases h : d = g c
    · rw [if_pos h, if_pos ⟨by rw [h, hfg], rfl⟩]
    · rw [if_neg h, if_neg fun h' => h (by rw [barCell_inj h'.1, hgf])]
  unfold O₀ Obar1 Obar2
  rw [Pi.add_apply, Finsupp.add_apply, Pi.add_apply, Finsupp.add_apply, Pi.add_apply, Finsupp.add_apply, h0,
    e1 partner partner partner_partner partner_partner, e1 right left right_left left_right, e1 left right left_right right_left]
  omega

omit [FloatOps F] in
/-- To an arrival cell its copy's sender owes the copy's amount. -/
theorem owes_recv (d c : Dev nD) (i : Fin 9) : O₀ d (recvCell c i) () = if d = org i c then Nn i else 0 := by
  have hb : ∀ n : Dev nD, (tallyAt (barCell n) () 1 : CellTallies nD τ sig Unit) (recvCell c i) () = 0 := fun n => by
    rw [tallyAt_apply, if_neg fun h => recv_ne_bar _ _ _ h.1]
  have hd : Odue Finset.univ d (recvCell c i) () = if d = org i c then Nn i else 0 := by
    unfold Odue
    rw [Finset.sum_apply, Finsupp.finset_sum_apply, Finset.sum_eq_single i]
    · rw [tallyAt_apply]
      by_cases h : d = org i c
      · rw [if_pos h, if_pos ⟨by rw [h, tgt_org], rfl⟩]
      · rw [if_neg h, if_neg fun h' => h (by rw [(recvCell_inj h'.1).1, org_tgt])]
    · intro j _ hj
      rw [tallyAt_apply, if_neg fun h' => hj (recvCell_inj h'.1).2.symm]
    · exact fun h => absurd (Finset.mem_univ i) h
  unfold O₀ Obar1 Obar2
  rw [Pi.add_apply, Finsupp.add_apply, Pi.add_apply, Finsupp.add_apply, Pi.add_apply, Finsupp.add_apply, hd, hb, hb, hb]
  omega

omit [FloatOps F] in
/-- So the barrier cell has credit three, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib, Finset.sum_add_distrib,
    Finset.sum_ite_eq' Finset.univ (left c) fun _ => 1, Finset.sum_ite_eq' Finset.univ (partner c) fun _ => 1, Finset.sum_ite_eq' Finset.univ (right c) fun _ => 1,
    if_pos (Finset.mem_univ _), if_pos (Finset.mem_univ _), if_pos (Finset.mem_univ _)]
omit [FloatOps F] in
/-- and an arrival cell the copy's amount. -/
theorem launch_recv (c : Dev nD) (i : Fin 9) :
    tallyOn (recvCell c i) (launchCredit (Pipeline.owing O₀) 0 (recvCell c i)) = (tallyAt (recvCell c i) () (Nn i) : CellTallies nD τ sig Unit) := by
  unfold tallyAt; refine congrArg _ (Finsupp.ext fun u => ?_); cases u
  rw [Pipeline.launchCredit_owing, Finsupp.single_eq_same, Finset.sum_congr rfl fun d _ => owes_recv d c i, Finset.sum_ite_eq' Finset.univ (org i c) fun _ => Nn i,
    if_pos (Finset.mem_univ _)]

/-- The incoming semaphores. -/
def recvEmb : Fin 9 ↪ SemLoc sig := ⟨fun i => .dma (recvSem i), fun i j h => (recvCell_inj (a := (0 : Dev nD)) (b := 0) (congrArg (Prod.mk _) h)).2⟩

omit [FloatOps F] in
/-- The launch's credit covers every wait of a device. -/
theorem credits_intro (c : Dev nD) : (Pipeline.launchCred O₀ c : sProp 𝕄) ⊢ credits c := by
  unfold Pipeline.launchCred credits
  rw [bigSep_univ_at _ (SemLoc.reg barS), launch_bar]
  refine sep_mono_right ((bigSep_subset (t := Finset.univ.map recvEmb) fun x hx => ?_).trans ?_)
  · obtain ⟨i, -, rfl⟩ := Finset.mem_map.mp hx
    exact Finset.mem_erase.mpr ⟨by rintro ⟨⟩, Finset.mem_univ _⟩
  · rw [bigSep_map]
    exact bigSep_mono fun i _ => Entails.of_eq (congrArg cred (launch_recv c i))

/-! ## Around the pipeline -/

omit [FloatOps F] in
/-- The launch gives what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits_intro (F := F) c) $$ Hcr
  imodintro
  unfold start G'
  isplitl
  · isplitl [HG]; · iexact HG
    isplitl [Hc]; · iexact Hc
    iexact Hlev
  · iempintro

/-- Entering the body. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- Leaving it, with the counters at zero. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, barSem_eq]
  unfold Φ₁ zeros scr
  iintro ⟨Hr, HB, HS, HV⟩
  isplitl [HB]; · iexact HB
  isplitl [HS HV]
  · isplitl [HS]; · iexact HS
    iexact HV
  iexact Hr

/-- The pipeline's own waits are allowed at every point. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the window's array holds at the end. -/
def finalA (c : Dev nD) (w : Fin cfg0.W) : Buf (Elt F) ((cfg0.win w).arr.view.loc (c : Thread nD τ)) := (dats m ρ 0 c).arrAt w cfg0.N

set_option maxRecDepth 8000 in
/-- From any memory, with the counters at zero, every fair execution on the eight devices ends, every window's array
    then holds what was computed, and the counters are at zero again. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := fun c => (body_ok m ρ c).loose) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP]
      · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]
      · iexact Hu
      iexact HSI)
    (hQ := fun _ h hs => ⟨fun c w => (h c).1 w, sem_eq_zero hs fun c => (h c).2.2⟩)

/-- The same, array by array: the result is the output window's, and the five arguments are as they were. -/
theorem run_out : θ_run defs (onTc (τ := τ) (main (F := F))) (s₀ m ρ) (fun r =>
    (∀ c : Dev nD, r.2.mem ((c.tc : Thread nD τ).loc main_v1) = finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨h.1 c (5 : Fin 6),
    (h.1 c (0 : Fin 6)).trans ((dats m ρ 0 c).arrAt_in (0 : Fin 6) rfl _),
    (h.1 c (1 : Fin 6)).trans ((dats m ρ 0 c).arrAt_in (1 : Fin 6) rfl _),
    (h.1 c (2 : Fin 6)).trans ((dats m ρ 0 c).arrAt_in (2 : Fin 6) rfl _),
    (h.1 c (3 : Fin 6)).trans ((dats m ρ 0 c).arrAt_in (3 : Fin 6) rfl _),
    (h.1 c (4 : Fin 6)).trans ((dats m ρ 0 c).arrAt_in (4 : Fin 6) rfl _)⟩, h.2⟩) (run_main m ρ)

end Cert.IdealTalk

end

end
-- ==== Proof.Value.Finite.lean ====
/-
The precondition, read: the tokens and the router weights are real numbers.
-/
module

public import proofs.«01_k».proof.Pre_tokens_and_router_finite_KernelIdeal
public import proofs.«01_k».proof.Pre_tokens_and_router_finite_ReferenceIdeal
public import Idealize.ShloMosaic.Lib.ReduceAll
public import Idealize.ShloMosaic.Lib.Pointwise
public import Idealize.ShloMosaic.Lib.ValueIdx

@[expose] public section

noncomputable section

namespace Cert.Moe

open Idealize.ShloMosaic

/-- The shapes the precondition names on one device fit. -/
theorem pre_kernel : Cert.Pre_tokens_and_router_finite_KernelIdeal.Facts :=
  ⟨by decide, by decide, by decide, by decide, by decide⟩

/-- The shapes it names on the whole arrays fit. -/
theorem pre_reference : Cert.Pre_tokens_and_router_finite_ReferenceIdeal.Facts :=
  ⟨by decide, by decide, by decide, by decide, by decide⟩

/-- An extended real whose absolute value is below the bf16 infinity is a real number. -/
theorem real_of_below (x : EReal) (h : FloatOps.cmpf (F := Ideal) (φ := .bf16) .olt (FloatOps.absf (F := Ideal) (φ := .bf16) x) (Ideal.ofBits .bf16 0x7F80#16) = 1#1) : ∃ r : ℝ, x = r := by
  have hb : Ideal.ofBits .bf16 0x7F80#16 = (⊤ : EReal) := by simp [Ideal.ofBits, Ideal.ieee]
  rw [hb] at h
  have h' : max x (-x) < (⊤ : EReal) := by
    by_contra hn
    have : FloatOps.cmpf (F := Ideal) (φ := .bf16) .olt (FloatOps.absf (F := Ideal) (φ := .bf16) x) (⊤ : EReal) = 0#1 := by
      show BitVec.ofBool (decide (max x (-x) < (⊤ : EReal))) = 0#1
      rw [decide_eq_false hn]
      rfl
    rw [this] at h
    exact absurd h (by decide)
  induction x with
  | bot => simp at h'
  | top => simp at h'
  | coe r => exact ⟨r, rfl⟩

section
open Cert.Pre_tokens_and_router_finite_KernelIdeal

/-- Where the precondition holds on a device, its tokens and router weights are real numbers. -/
theorem pre_real (x : FVec Ideal S512x256 .bf16) (rw : FVec Ideal S256x32 .bf16) (id : IVec S512x1 32) (ew : FVec Ideal S4x256x512 .bf16) (sw : FVec Ideal S256x512 .bf16)
    (h : @Cert.Pre_tokens_and_router_finite_KernelIdeal.fn pre_kernel Ideal _ x rw id ew sw = fun _ => 1#1) :
    (∀ i, ∃ r : ℝ, (x i : EReal) = r) ∧ ∀ i, ∃ r : ℝ, (rw i : EReal) = r := by
  have : Subsingleton S_.Idx := ⟨fun a b => funext fun k => k.elim0⟩
  have h0 := congrFun h (Shape.Idx.first (by decide))
  obtain ⟨h1, h2⟩ := IntOp.andi_eq_one.1 h0
  exact ⟨fun i => real_of_below _ (Host.reduce_andi_all _ _ _ _ _ h1 i), fun i => real_of_below _ (Host.reduce_andi_all _ _ _ _ _ h2 i)⟩
end

end Cert.Moe

end
-- ==== Proof.Value.Acc.lean ====
/-
One step of the kernel's sum over experts, read at one token and one column.
-/
module

public import proofs.«01_k».proof.Proof.Ideal.Body
public import Idealize.ShloMosaic.Lib.Pointwise
public import Idealize.ShloMosaic.Lib.ValueIdx

@[expose] public section

noncomputable section

namespace Cert.Moe

open Cert.KernelIdeal Cert.KernelIdeal.Gen
open Idealize.ShloMosaic

section
variable (x : FVec Ideal S512x256 .bf16) (id : IVec S512x1 32) (g : FVec Ideal S512x1 .f32)

/-- The tokens scaled by their gate where they name the expert `w`, zero elsewhere. -/
def piece (w : BitVec 32) : FVec Ideal S512x256 .f32 :=
  mulf (extf .f32 x bitsLt_bf16_f32) (broadcastTo S512x256 (select (cmpi .eq id (broadcast S512x1 w)) g
    (broadcast S512x1 (Scalar.ofBits .f32 0x00000000#32))) broadcasts_S512x1_S512x256)

/-- Four experts added to a running result: one product with the four scaled copies of the tokens side by side. -/
def acc4 (o : FVec Ideal S512x512 .f32) (a b c d : BitVec 32) (V : FVec Ideal S4x256x512 .bf16) : FVec Ideal S512x512 .f32 :=
  addf o (matmul dot_S512x1024_S1024x512_S512x512_1_0_0_1_n_n none
    (truncf .bf16 (concatenate S512x1024 1 [⟨S512x256, piece x id g a⟩, ⟨S512x256, piece x id g b⟩, ⟨S512x256, piece x id g c⟩, ⟨S512x256, piece x id g d⟩]
      concatenates_S512x256_S512x256_S512x256_S512x256_S512x1024_d1) bitsLt_bf16_f32)
    (shapeCast S1024x512 V shapeCasts_S4x256x512_S1024x512) (constant S512x512 .f32 0x00000000#32))

/-- Two experts added to a running result. -/
def acc2 (o : FVec Ideal S512x512 .f32) (a b : BitVec 32) (V : FVec Ideal S2x256x512 .bf16) : FVec Ideal S512x512 .f32 :=
  addf o (matmul dot_S512x512_S512x512_S512x512_1_0_0_1_n_n none
    (truncf .bf16 (concatenate S512x512 1 [⟨S512x256, piece x id g a⟩, ⟨S512x256, piece x id g b⟩]
      concatenates_S512x256_S512x256_S512x512_d1) bitsLt_bf16_f32)
    (shapeCast S512x512 V shapeCasts_S2x256x512_S512x512) (constant S512x512 .f32 0x00000000#32))

/-- What expert `w`, with weights `V d`, gives token `t`. -/
def share (t : Fin 512) (w : BitVec 32) (V : Fin 256 → EReal) : EReal :=
  ∑ d : Fin 256, (x (ix2 t d) : EReal) * (if id (ix2 t 0) = w then (g (ix2 t 0) : EReal) else 0) * V d

/-- A scaled token: the token's entry times its gate where it names expert `w`, and times 0 elsewhere. -/
theorem piece_at (w : BitVec 32) (t : Fin 512) (d : Fin 256) :
    piece x id g w (ix2 t d) = (x (ix2 t d) : EReal) * (if id (ix2 t 0) = w then (g (ix2 t 0) : EReal) else 0) := by
  unfold piece
  pointwise
  by_cases hw : id (ix2 t 0) = w
  · simp [IntOp.cmpi, hw, Scalar.select]
  · have hb : (id (ix2 t 0) == w) = false := by simpa using hw
    simp [IntOp.cmpi, hb, hw, Scalar.select]

/-- Adding the products of two experts adds their two shares. -/
theorem acc2_at (o : FVec Ideal S512x512 .f32) (a b : BitVec 32) (V : FVec Ideal S2x256x512 .bf16) (t h : Fin 512) :
    acc2 x id g o a b V (ix2 t h) = (o (ix2 t h) : EReal) + (share x id g t a (fun d => V (ix3 0 d h)) + share x id g t b (fun d => V (ix3 1 d h))) := by
  unfold acc2
  pointwise
  unfold share
  congr 2
  · refine Finset.sum_congr rfl fun d _ => ?_
    have := d.isLt
    rw [piece_at, show (⟨d.val / 256, by omega⟩ : Fin 2) = 0 from Fin.ext (by show d.val / 256 = 0; omega), show (⟨d.val % 256, by omega⟩ : Fin 256) = d from Fin.ext (by show d.val % 256 = d.val; omega)]
  · refine Finset.sum_congr rfl fun d _ => ?_
    have := d.isLt
    rw [piece_at, show (⟨(256 + d.val) / 256, by omega⟩ : Fin 2) = 1 from Fin.ext (by show (256 + d.val) / 256 = 1; omega), show (⟨(256 + d.val) % 256, by omega⟩ : Fin 256) = d from Fin.ext (by show (256 + d.val) % 256 = d.val; omega)]

/-- A sum over four blocks of 256. -/
theorem sum_four (f : Fin 1024 → EReal) : ∑ k, f k = ∑ d : Fin 256, f ⟨d.val, by omega⟩ + ∑ d : Fin 256, f ⟨256 + d.val, by omega⟩
    + ∑ d : Fin 256, f ⟨512 + d.val, by omega⟩ + ∑ d : Fin 256, f ⟨768 + d.val, by omega⟩ := by
  have e : (1024 : ℕ) = 256 + 256 + 256 + 256 := rfl
  rw [← Equiv.sum_comp (finCongr e.symm) f, Fin.sum_univ_add, Fin.sum_univ_add, Fin.sum_univ_add]
  rfl

/-- Adding the products of four experts adds their four shares. -/
theorem acc4_at (o : FVec Ideal S512x512 .f32) (a b c d : BitVec 32) (V : FVec Ideal S4x256x512 .bf16) (t h : Fin 512) :
    acc4 x id g o a b c d V (ix2 t h) = (o (ix2 t h) : EReal) + (share x id g t a (fun d => V (ix3 0 d h)) + share x id g t b (fun d => V (ix3 1 d h))
      + share x id g t c (fun d => V (ix3 2 d h)) + share x id g t d (fun d => V (ix3 3 d h))) := by
  unfold acc4
  pointwise
  refine congrArg (o (ix2 t h) + ·) ((sum_four _).trans ?_)
  unfold share
  congr 1
  · congr 1
    · congr 1
      · refine Finset.sum_congr rfl fun k _ => ?_
        have := k.isLt
        rw [dif_pos (by show k.val < 256; omega), piece_at, show (⟨k.val / 256, by omega⟩ : Fin 4) = 0 from Fin.ext (by show k.val / 256 = 0; omega), show (⟨k.val % 256, by omega⟩ : Fin 256) = k from Fin.ext (by show k.val % 256 = k.val; omega)]
      · refine Finset.sum_congr rfl fun k _ => ?_
        have := k.isLt
        rw [dif_neg (by show ¬ 256 + k.val < 256; omega), dif_pos (by show 256 + k.val - 256 < 256; omega),
          show (⟨256 + k.val - 256, by omega⟩ : Fin 256) = k from Fin.ext (by show 256 + k.val - 256 = k.val; omega), piece_at,
          show (⟨(256 + k.val) / 256, by omega⟩ : Fin 4) = 1 from Fin.ext (by show (256 + k.val) / 256 = 1; omega), show (⟨(256 + k.val) % 256, by omega⟩ : Fin 256) = k from Fin.ext (by show (256 + k.val) % 256 = k.val; omega)]
    · refine Finset.sum_congr rfl fun k _ => ?_
      have := k.isLt
      rw [dif_neg (by show ¬ 512 + k.val < 256; omega), dif_neg (by show ¬ 512 + k.val - 256 < 256; omega), dif_pos (by show 512 + k.val - 256 - 256 < 256; omega),
        show (⟨512 + k.val - 256 - 256, by omega⟩ : Fin 256) = k from Fin.ext (by show 512 + k.val - 256 - 256 = k.val; omega), piece_at,
        show (⟨(512 + k.val) / 256, by omega⟩ : Fin 4) = 2 from Fin.ext (by show (512 + k.val) / 256 = 2; omega), show (⟨(512 + k.val) % 256, by omega⟩ : Fin 256) = k from Fin.ext (by show (512 + k.val) % 256 = k.val; omega)]
  · refine Finset.sum_congr rfl fun k _ => ?_
    have := k.isLt
    rw [dif_neg (by show ¬ 768 + k.val < 256; omega), dif_neg (by show ¬ 768 + k.val - 256 < 256; omega), dif_neg (by show ¬ 768 + k.val - 256 - 256 < 256; omega),
      show (⟨768 + k.val - 256 - 256 - 256, by omega⟩ : Fin 256) = k from Fin.ext (by show 768 + k.val - 256 - 256 - 256 = k.val; omega), piece_at,
      show (⟨(768 + k.val) / 256, by omega⟩ : Fin 4) = 3 from Fin.ext (by show (768 + k.val) / 256 = 3; omega), show (⟨(768 + k.val) % 256, by omega⟩ : Fin 256) = k from Fin.ext (by show (768 + k.val) % 256 = k.val; omega)]
end

end Cert.Moe

end
-- ==== Proof.Value.Steps.lean ====
/-
The kernel's result, written as the eight devices' experts added in turn to the shared product.
-/
module

public import proofs.«01_k».proof.Proof.Value.Acc

@[expose] public section

noncomputable section

namespace Cert.Moe

open Cert.KernelIdeal Cert.KernelIdeal.Gen Cert.IdealTalk
open Idealize.ShloMosaic

section
variable (W : Dev nD → (cc0_stg3_0 : Ref sig .tc).ty.Contents (Elt Ideal)) (c : Dev nD)
  (x : (cc0_stg0_0 : Ref sig .tc).ty.Contents (Elt Ideal)) (rw : (cc0_stg1_0 : Ref sig .tc).ty.Contents (Elt Ideal)) (id : (cc0_stg2_0 : Ref sig .tc).ty.Contents (Elt Ideal)) (sw : (cc0_stg4_0 : Ref sig .tc).ty.Contents (Elt Ideal))

/-- The word naming expert `e` of device `s`. -/
abbrev nm (s : Dev nD) (e : ℕ) : BitVec 32 := BitVec.ofNat 32 (4 * s.val + e)

/-- The four experts of `s`. -/
abbrev all4 (X : FVec Ideal S512x256 .bf16) (I : IVec S512x1 32) (G : FVec Ideal S512x1 .f32) (o : FVec Ideal S512x512 .f32) (s : Dev nD) (V : FVec Ideal S4x256x512 .bf16) : FVec Ideal S512x512 .f32 :=
  acc4 X I G o (nm s 0) (nm s 1) (nm s 2) (nm s 3) V
/-- The lower two experts of `s`. -/
abbrev low2 (X : FVec Ideal S512x256 .bf16) (I : IVec S512x1 32) (G : FVec Ideal S512x1 .f32) (o : FVec Ideal S512x512 .f32) (s : Dev nD) (V : FVec Ideal S2x256x512 .bf16) : FVec Ideal S512x512 .f32 :=
  acc2 X I G o (nm s 0) (nm s 1) V
/-- The upper two experts of `s`. -/
abbrev high2 (X : FVec Ideal S512x256 .bf16) (I : IVec S512x1 32) (G : FVec Ideal S512x1 .f32) (o : FVec Ideal S512x512 .f32) (s : Dev nD) (V : FVec Ideal S2x256x512 .bf16) : FVec Ideal S512x512 .f32 :=
  acc2 X I G o (nm s 2) (nm s 3) V

/-- The words of four experts in turn, from a device number's word. -/
abbrev quad (X : FVec Ideal S512x256 .bf16) (I : IVec S512x1 32) (G : FVec Ideal S512x1 .f32) (o : FVec Ideal S512x512 .f32) (s : BitVec 32) (V : FVec Ideal S4x256x512 .bf16) : FVec Ideal S512x512 .f32 :=
  acc4 X I G o (Scalar.addi (Scalar.addi (Scalar.muli s 4#32) 0#32) 0#32) (Scalar.addi (Scalar.addi (Scalar.muli s 4#32) 0#32) 1#32)
    (Scalar.addi (Scalar.addi (Scalar.muli s 4#32) 0#32) 2#32) (Scalar.addi (Scalar.addi (Scalar.muli s 4#32) 0#32) 3#32) V
/-- The words of two experts in turn, from the `b`-th of a device. -/
abbrev pair (X : FVec Ideal S512x256 .bf16) (I : IVec S512x1 32) (G : FVec Ideal S512x1 .f32) (o : FVec Ideal S512x512 .f32) (s b : BitVec 32) (V : FVec Ideal S2x256x512 .bf16) : FVec Ideal S512x512 .f32 :=
  acc2 X I G o (Scalar.addi (Scalar.addi (Scalar.muli s 4#32) b) 0#32) (Scalar.addi (Scalar.addi (Scalar.muli s 4#32) b) 1#32) V

/-- The first sum, by the word of the device itself. -/
theorem out1_words : out1 W c x rw id sw
    = quad (k0_pay2 x) (k0_pay3 id) (k0_pay4 x rw id) (k0_pay5 x sw) (w2 c) (shapeCast S4x256x512 (W c) shapeCasts_S4x256x512_S4x256x512) := rfl

variable (X : FVec Ideal S512x256 .bf16) (I : IVec S512x1 32) (G : FVec Ideal S512x1 .f32) (o : FVec Ideal S512x512 .f32)

/-- The second sum, by the words of the two neighbours and the partner. -/
theorem out2_words : out2 W c X I G o
    = pair X I G (quad X I G (quad X I G (k0_pay8 o) (wperm (Scalar.subi (w7 c) 1#32)) (shapeCast S4x256x512 (lf1 W c) shapeCasts_S1x4x256x512_S4x256x512))
        (wperm (Scalar.addi (w7 c) 1#32)) (shapeCast S4x256x512 (lb1 W c) shapeCasts_S1x4x256x512_S4x256x512))
        (w29 c) 2#32 (CR0 W c) := rfl

/-- The third sum, by the words of the devices two steps away and the opposite one. -/
theorem out3_words : out3 W c X I G o
    = quad X I G (quad X I G (quad X I G (k0_pay19 o) (wperm (Scalar.subi (w7 c) 2#32)) (shapeCast S4x256x512 (lf2 W c) shapeCasts_S1x4x256x512_S4x256x512))
        (wperm (Scalar.addi (w7 c) 2#32)) (shapeCast S4x256x512 (lb2 W c) shapeCasts_S1x4x256x512_S4x256x512))
        (wperm (Scalar.addi (w7 c) 4#32)) (CR1 W c) := rfl

/-- The last sum, by the words of the devices three steps away and the far one. -/
theorem out4_words : out4 W c X I G o
    = pair X I G (pair X I G (pair X I G (shapeCast S512x512 o shapeCasts_S512x512_S512x512) (wperm (Scalar.subi (w7 c) 3#32)) 0#32 (shapeCast S2x256x512 (lf3 W c) shapeCasts_S1x2x256x512_S2x256x512))
        (wperm (Scalar.addi (w7 c) 3#32)) 0#32 (shapeCast S2x256x512 (lb3 W c) shapeCasts_S1x2x256x512_S2x256x512))
        (wperm (Scalar.select (w21 c) (Scalar.subi (w7 c) 3#32) (Scalar.addi (w7 c) 3#32))) 2#32 (CR2 W c) := rfl

/-- The word the kernel computes for an expert of device `s` is `4 s` and the expert's place. -/
theorem expert_word (s : Dev nD) : (Scalar.addi (Scalar.addi (Scalar.muli (BitVec.ofNat 32 s.val) 4#32) 0#32) 0#32 = nm s 0
    ∧ Scalar.addi (Scalar.addi (Scalar.muli (BitVec.ofNat 32 s.val) 4#32) 0#32) 1#32 = nm s 1)
    ∧ (Scalar.addi (Scalar.addi (Scalar.muli (BitVec.ofNat 32 s.val) 4#32) 0#32) 2#32 = nm s 2
    ∧ Scalar.addi (Scalar.addi (Scalar.muli (BitVec.ofNat 32 s.val) 4#32) 0#32) 3#32 = nm s 3)
    ∧ Scalar.addi (Scalar.addi (Scalar.muli (BitVec.ofNat 32 s.val) 4#32) 2#32) 0#32 = nm s 2
    ∧ Scalar.addi (Scalar.addi (Scalar.muli (BitVec.ofNat 32 s.val) 4#32) 2#32) 1#32 = nm s 3 := by revert s; decide
/-- Four experts taken from device `s` carry its four numbers, -/
theorem quad_nm (s : Dev nD) (V : FVec Ideal S4x256x512 .bf16) : quad X I G o (BitVec.ofNat 32 s.val) V = all4 X I G o s V := by
  obtain ⟨⟨h0, h1⟩, ⟨h2, h3⟩, -⟩ := expert_word s
  unfold quad all4
  rw [h0, h1, h2, h3]
/-- two taken from its first half the first two, -/
theorem pair_nm0 (s : Dev nD) (V : FVec Ideal S2x256x512 .bf16) : pair X I G o (BitVec.ofNat 32 s.val) 0#32 V = low2 X I G o s V := by
  obtain ⟨⟨h0, h1⟩, -⟩ := expert_word s
  unfold pair low2
  rw [h0, h1]
/-- and two from its second half the last two. -/
theorem pair_nm2 (s : Dev nD) (V : FVec Ideal S2x256x512 .bf16) : pair X I G o (BitVec.ofNat 32 s.val) 2#32 V = high2 X I G o s V := by
  obtain ⟨-, -, h2, h3⟩ := expert_word s
  unfold pair high2
  rw [h2, h3]

/-- The word of the device itself. -/
theorem wd_me : w2 c = BitVec.ofNat 32 c.val := by revert c; decide
/-- The word of the left neighbour. -/
theorem wd_l1 : wperm (Scalar.subi (w7 c) 1#32) = BitVec.ofNat 32 (left^[1] c).val := by revert c; decide
/-- The word of the right neighbour. -/
theorem wd_r1 : wperm (Scalar.addi (w7 c) 1#32) = BitVec.ofNat 32 (right^[1] c).val := by revert c; decide
/-- The word of the partner. -/
theorem wd_p : w29 c = BitVec.ofNat 32 (partner c).val := by revert c; decide
/-- The word of the device two steps to the left. -/
theorem wd_l2 : wperm (Scalar.subi (w7 c) 2#32) = BitVec.ofNat 32 (left^[2] c).val := by revert c; decide
/-- The word of the device two steps to the right. -/
theorem wd_r2 : wperm (Scalar.addi (w7 c) 2#32) = BitVec.ofNat 32 (right^[2] c).val := by revert c; decide
/-- The word of the opposite device. -/
theorem wd_o : wperm (Scalar.addi (w7 c) 4#32) = BitVec.ofNat 32 (opp c).val := by revert c; decide
/-- The word of the device three steps to the left. -/
theorem wd_l3 : wperm (Scalar.subi (w7 c) 3#32) = BitVec.ofNat 32 (left^[3] c).val := by revert c; decide
/-- The word of the device three steps to the right. -/
theorem wd_r3 : wperm (Scalar.addi (w7 c) 3#32) = BitVec.ofNat 32 (right^[3] c).val := by revert c; decide
/-- The word of the far device. -/
theorem wd_f : wperm (Scalar.select (w21 c) (Scalar.subi (w7 c) 3#32) (Scalar.addi (w7 c) 3#32)) = BitVec.ofNat 32 (far c).val := by revert c; decide

/-- What is read from slot 1 of the forward buffer is the left neighbour's block. -/
theorem lf1_at (e : Fin 4) (d : Fin 256) (h : Fin 512) : shapeCast S4x256x512 (lf1 W c) shapeCasts_S1x4x256x512_S4x256x512 (ix3 e d h) = W (left^[1] c) (ix3 e d h) := by
  pointwise
  show W (left^[(1 + 1 * 0 : ℕ)] c) (tl _) = _
  refine congrArg (W (left^[1] c)) (funext fun a => ?_)
  revert a
  intro (a : Fin 3)
  fin_cases a
  · exact Fin.ext (by show 0 + 1 * e.val = e.val; omega)
  · exact Fin.ext (by show 0 + 1 * d.val = d.val; omega)
  · exact Fin.ext (by show 0 + 1 * h.val = h.val; omega)
/-- What is read from slot 2 of the forward buffer is the block from two steps to the left. -/
theorem lf2_at (e : Fin 4) (d : Fin 256) (h : Fin 512) : shapeCast S4x256x512 (lf2 W c) shapeCasts_S1x4x256x512_S4x256x512 (ix3 e d h) = W (left^[2] c) (ix3 e d h) := by
  pointwise
  show W (left^[(2 + 1 * 0 : ℕ)] c) (tl _) = _
  refine congrArg (W (left^[2] c)) (funext fun a => ?_)
  revert a
  intro (a : Fin 3)
  fin_cases a
  · exact Fin.ext (by show 0 + 1 * e.val = e.val; omega)
  · exact Fin.ext (by show 0 + 1 * d.val = d.val; omega)
  · exact Fin.ext (by show 0 + 1 * h.val = h.val; omega)
/-- What is read from slot 3 of the forward buffer is the first half of the block from three steps to the left. -/
theorem lf3_at (e : Fin 2) (d : Fin 256) (h : Fin 512) : shapeCast S2x256x512 (lf3 W c) shapeCasts_S1x2x256x512_S2x256x512 (ix3 e d h) = W (left^[3] c) (ix3 ⟨e.val, by omega⟩ d h) := by
  pointwise
  show W (left^[(3 + 1 * 0 : ℕ)] c) (tl _) = _
  refine congrArg (W (left^[3] c)) (funext fun a => ?_)
  revert a
  intro (a : Fin 3)
  fin_cases a
  · exact Fin.ext (by show 0 + 1 * e.val = e.val; omega)
  · exact Fin.ext (by show 0 + 1 * d.val = d.val; omega)
  · exact Fin.ext (by show 0 + 1 * h.val = h.val; omega)
/-- What is read from slot 1 of the backward buffer is the right neighbour's block. -/
theorem lb1_at (e : Fin 4) (d : Fin 256) (h : Fin 512) : shapeCast S4x256x512 (lb1 W c) shapeCasts_S1x4x256x512_S4x256x512 (ix3 e d h) = W (right^[1] c) (ix3 e d h) := by
  pointwise
  show W (right^[(1 + 1 * 0 : ℕ)] c) (tl _) = _
  refine congrArg (W (right^[1] c)) (funext fun a => ?_)
  revert a
  intro (a : Fin 3)
  fin_cases a
  · exact Fin.ext (by show 0 + 1 * e.val = e.val; omega)
  · exact Fin.ext (by show 0 + 1 * d.val = d.val; omega)
  · exact Fin.ext (by show 0 + 1 * h.val = h.val; omega)
/-- What is read from slot 2 of the backward buffer is the block from two steps to the right. -/
theorem lb2_at (e : Fin 4) (d : Fin 256) (h : Fin 512) : shapeCast S4x256x512 (lb2 W c) shapeCasts_S1x4x256x512_S4x256x512 (ix3 e d h) = W (right^[2] c) (ix3 e d h) := by
  pointwise
  show W (right^[(2 + 1 * 0 : ℕ)] c) (tl _) = _
  refine congrArg (W (right^[2] c)) (funext fun a => ?_)
  revert a
  intro (a : Fin 3)
  fin_cases a
  · exact Fin.ext (by show 0 + 1 * e.val = e.val; omega)
  · exact Fin.ext (by show 0 + 1 * d.val = d.val; omega)
  · exact Fin.ext (by show 0 + 1 * h.val = h.val; omega)
/-- What is read from slot 3 of the backward buffer is the first half of the block from three steps to the right. -/
theorem lb3_at (e : Fin 2) (d : Fin 256) (h : Fin 512) : shapeCast S2x256x512 (lb3 W c) shapeCasts_S1x2x256x512_S2x256x512 (ix3 e d h) = W (right^[3] c) (ix3 ⟨e.val, by omega⟩ d h) := by
  pointwise
  show W (right^[(3 + 1 * 0 : ℕ)] c) (tl _) = _
  refine congrArg (W (right^[3] c)) (funext fun a => ?_)
  revert a
  intro (a : Fin 3)
  fin_cases a
  · exact Fin.ext (by show 0 + 1 * e.val = e.val; omega)
  · exact Fin.ext (by show 0 + 1 * d.val = d.val; omega)
  · exact Fin.ext (by show 0 + 1 * h.val = h.val; omega)
/-- The device's own block, read. -/
theorem me_at (e : Fin 4) (d : Fin 256) (h : Fin 512) : shapeCast S4x256x512 (W c) shapeCasts_S4x256x512_S4x256x512 (ix3 e d h) = W c (ix3 e d h) := by
  pointwise
/-- The second half of a block holds its experts 2 and 3. -/
theorem hi_at (s : Dev nD) (e : Fin 2) (d : Fin 256) (h : Fin 512) : W s (hi (ix3 e d h)) = W s (ix3 ⟨2 + e.val, by omega⟩ d h) := by
  refine congrArg (W s) (funext fun a => ?_)
  revert a
  intro (a : Fin 3)
  fin_cases a
  · rfl
  · exact Fin.ext (by show 0 + d.val = d.val; omega)
  · exact Fin.ext (by show 0 + h.val = h.val; omega)

/-- A recast to the same shape changes nothing. -/
theorem same_at (t h : Fin 512) : shapeCast S512x512 o shapeCasts_S512x512_S512x512 (ix2 t h) = o (ix2 t h) := by
  pointwise
/-- The second sum starts from the first, -/
theorem pay8_at (t h : Fin 512) : k0_pay8 o (ix2 t h) = o (ix2 t h) := same_at o t h
/-- and the third from the second. -/
theorem pay19_at (t h : Fin 512) : k0_pay19 o (ix2 t h) = o (ix2 t h) := same_at o t h

/-- The eight devices in the order their experts arrive at `c`, each whole or in two halves, are the eight devices once each. -/
theorem all_once (T : Dev nD → Fin 4 → EReal) (z : EReal) :
    z + (T c 0 + T c 1 + T c 2 + T c 3) + (T (left^[1] c) 0 + T (left^[1] c) 1 + T (left^[1] c) 2 + T (left^[1] c) 3)
      + (T (right^[1] c) 0 + T (right^[1] c) 1 + T (right^[1] c) 2 + T (right^[1] c) 3) + (T (partner c) 2 + T (partner c) 3)
      + (T (left^[2] c) 0 + T (left^[2] c) 1 + T (left^[2] c) 2 + T (left^[2] c) 3)
      + (T (right^[2] c) 0 + T (right^[2] c) 1 + T (right^[2] c) 2 + T (right^[2] c) 3) + (T (opp c) 0 + T (opp c) 1 + T (opp c) 2 + T (opp c) 3)
      + (T (left^[3] c) 0 + T (left^[3] c) 1) + (T (right^[3] c) 0 + T (right^[3] c) 1) + (T (far c) 2 + T (far c) 3)
    = z + ∑ s, ∑ e, T s e := by
  have key : ∀ l1 r1 p l2 r2 oo l3 r3 f : Dev nD, left^[1] c = l1 → right^[1] c = r1 → partner c = p → left^[2] c = l2 → right^[2] c = r2 → opp c = oo → left^[3] c = l3
      → right^[3] c = r3 → far c = f → (p = l3 ∧ f = r3 ∨ p = r3 ∧ f = l3) → (Finset.univ : Finset (Dev nD)).val = {c, l1, r1, l2, r2, oo, l3, r3} →
      z + (T c 0 + T c 1 + T c 2 + T c 3) + (T (left^[1] c) 0 + T (left^[1] c) 1 + T (left^[1] c) 2 + T (left^[1] c) 3)
      + (T (right^[1] c) 0 + T (right^[1] c) 1 + T (right^[1] c) 2 + T (right^[1] c) 3) + (T (partner c) 2 + T (partner c) 3)
      + (T (left^[2] c) 0 + T (left^[2] c) 1 + T (left^[2] c) 2 + T (left^[2] c) 3)
      + (T (right^[2] c) 0 + T (right^[2] c) 1 + T (right^[2] c) 2 + T (right^[2] c) 3) + (T (opp c) 0 + T (opp c) 1 + T (opp c) 2 + T (opp c) 3)
      + (T (left^[3] c) 0 + T (left^[3] c) 1) + (T (right^[3] c) 0 + T (right^[3] c) 1) + (T (far c) 2 + T (far c) 3)
      = z + ∑ s, ∑ e, T s e := by
    intro l1 r1 p l2 r2 oo l3 r3 f h1 h2 h3 h4 h5 h6 h7 h8 h9 hp hu
    rw [h1, h2, h3, h4, h5, h6, h7, h8, h9, Finset.sum, hu]
    simp only [Multiset.insert_eq_cons, Multiset.map_cons, Multiset.sum_cons, Multiset.map_singleton, Multiset.sum_singleton, Fin.sum_univ_four]
    rcases hp with ⟨rfl, rfl⟩ | ⟨rfl, rfl⟩ <;> abel
  exact key _ _ _ _ _ _ _ _ _ rfl rfl rfl rfl rfl rfl rfl rfl rfl (by clear key; revert c; decide) (by clear key; revert c; decide)

/-- What expert `e` of device `s` gives token `t` at column `h`. -/
def given (t h : Fin 512) (s : Dev nD) (e : Fin 4) : EReal := share X I G t (nm s e.val) (fun d => W s (ix3 e d h))

/-- Adding all experts of device `s` adds what each of the four gives. -/
theorem all4_at (s : Dev nD) (V : FVec Ideal S4x256x512 .bf16) (hV : ∀ (e : Fin 4) (d : Fin 256) (h : Fin 512), V (ix3 e d h) = W s (ix3 e d h)) (t h : Fin 512) :
    all4 X I G o s V (ix2 t h) = (o (ix2 t h) : EReal) + (given W X I G t h s 0 + given W X I G t h s 1 + given W X I G t h s 2 + given W X I G t h s 3) := by
  refine (acc4_at X I G o _ _ _ _ V t h).trans ?_
  unfold given
  rw [funext fun d => hV 0 d h, funext fun d => hV 1 d h, funext fun d => hV 2 d h, funext fun d => hV 3 d h]
  rfl
/-- Adding its first half adds what experts 0 and 1 give. -/
theorem low2_at (s : Dev nD) (V : FVec Ideal S2x256x512 .bf16) (hV : ∀ (e : Fin 2) (d : Fin 256) (h : Fin 512), V (ix3 e d h) = W s (ix3 ⟨e.val, by omega⟩ d h)) (t h : Fin 512) :
    low2 X I G o s V (ix2 t h) = (o (ix2 t h) : EReal) + (given W X I G t h s 0 + given W X I G t h s 1) := by
  refine (acc2_at X I G o _ _ V t h).trans ?_
  unfold given
  rw [funext fun d => hV 0 d h, funext fun d => hV 1 d h]
  rfl
/-- Adding its second half adds what experts 2 and 3 give. -/
theorem high2_at (s : Dev nD) (V : FVec Ideal S2x256x512 .bf16) (hV : ∀ (e : Fin 2) (d : Fin 256) (h : Fin 512), V (ix3 e d h) = W s (ix3 ⟨2 + e.val, by omega⟩ d h)) (t h : Fin 512) :
    high2 X I G o s V (ix2 t h) = (o (ix2 t h) : EReal) + (given W X I G t h s 2 + given W X I G t h s 3) := by
  refine (acc2_at X I G o _ _ V t h).trans ?_
  unfold given
  rw [funext fun d => hV 0 d h, funext fun d => hV 1 d h]
  rfl

/-- The kernel's result at one token and column: the shared product and every device's four experts once. -/
theorem outAt_at (t h : Fin 512) : outAt W c x rw id sw (ix2 t h)
    = (k0_pay5 x sw (ix2 t h) : EReal) + ∑ s : Dev nD, ∑ e : Fin 4, given W (k0_pay2 x) (k0_pay3 id) (k0_pay4 x rw id) t h s e := by
  unfold outAt
  rw [out4_words, out3_words, out2_words, out1_words, wd_me, wd_l1, wd_r1, wd_p, wd_l2, wd_r2, wd_o, wd_l3, wd_r3, wd_f,
    quad_nm, quad_nm, quad_nm, quad_nm, quad_nm, quad_nm, pair_nm0, pair_nm0, pair_nm2, pair_nm2]
  generalize k0_pay2 x = X, k0_pay3 id = I, k0_pay4 x rw id = G, k0_pay5 x sw = Z
  rw [high2_at W X I G _ (far c) (CR2 W c) (hi_at W _), low2_at W X I G _ (right^[3] c) _ (lb3_at W c), low2_at W X I G _ (left^[3] c) _ (lf3_at W c), same_at,
    all4_at W X I G _ (opp c) (CR1 W c) (fun _ _ _ => rfl), all4_at W X I G _ (right^[2] c) _ (lb2_at W c), all4_at W X I G _ (left^[2] c) _ (lf2_at W c), pay19_at,
    high2_at W X I G _ (partner c) (CR0 W c) (hi_at W _), all4_at W X I G _ (right^[1] c) _ (lb1_at W c), all4_at W X I G _ (left^[1] c) _ (lf1_at W c), pay8_at,
    all4_at W X I G _ c _ (me_at W c)]
  exact all_once c (given W X I G t h) _
end

end Cert.Moe

end
-- ==== Proof.Value.Rows.lean ====
/-
The mathematics of one token: its probabilities are real and not negative when its scores are real, and summing a scaled product over all
experts, where the scale is zero but at the one named, is the scale times that expert's product.
-/
module

public import Idealize.ShloMosaic.Lib.Pointwise
public import Idealize.ShloMosaic.Lib.ValueIdx

@[expose] public section

noncomputable section

namespace Cert.Moe

open Idealize.ShloMosaic

/-- The exponential of one score less the greatest. -/
def expR (s : Fin 32 → EReal) (e : Fin 32) : EReal := Ideal.exp (s e - Finset.univ.fold max (Ideal.ofBits FTy.f32 0xFF800000#32) s)
/-- The probability of one expert. -/
def probR (s : Fin 32 → EReal) (e : Fin 32) : EReal := Ideal.div (expR s e) (∑ e', expR s e')
/-- The gate of a token naming `w`: its probability, or zero where `w` is no expert. -/
def gateR (s : Fin 32 → EReal) (w : BitVec 32) : EReal := if h : w.toNat < 32 then probR s ⟨w.toNat, h⟩ else 0

/-- The word a maximum starts from is the least extended real. -/
theorem low_start : Ideal.ofBits FTy.f32 0xFF800000#32 = ⊥ := by
  simp [Ideal.ofBits, Ideal.ieee]

/-- A sum of reals is real. -/
theorem coe_sum_real {ι : Type} (u : Finset ι) (f : ι → ℝ) : ∑ i ∈ u, (f i : EReal) = ((∑ i ∈ u, f i : ℝ) : EReal) := by
  classical
  induction u using Finset.induction_on with
  | empty => simp
  | insert a u ha ih => rw [Finset.sum_insert ha, Finset.sum_insert ha, ih, EReal.coe_add]

/-- The greatest of 32 real scores is real. -/
theorem top_real (s : Fin 32 → ℝ) : ∃ r : ℝ, Finset.univ.fold max (Ideal.ofBits FTy.f32 0xFF800000#32) (fun e => (s e : EReal)) = r := by
  rw [low_start]
  obtain ⟨e, -, he⟩ := Finset.exists_mem_eq_sup (Finset.univ : Finset (Fin 32)) Finset.univ_nonempty (fun e => (s e : EReal))
  exact ⟨s e, he⟩

/-- The exponentials of real scores are positive reals. -/
theorem expR_real (s : Fin 32 → ℝ) (e : Fin 32) : ∃ r : ℝ, 0 < r ∧ expR (fun e => (s e : EReal)) e = r := by
  obtain ⟨M, hM⟩ := top_real s
  refine ⟨Real.exp (s e - M), Real.exp_pos _, ?_⟩
  unfold expR
  rw [hM, ← EReal.coe_sub]
  rfl

/-- Real scores give probabilities that are real and not negative. -/
theorem probR_real (s : Fin 32 → ℝ) (e : Fin 32) : ∃ r : ℝ, 0 ≤ r ∧ probR (fun e => (s e : EReal)) e = r := by
  choose f hf hfe using expR_real s
  have hsum : ∑ e', expR (fun e => (s e : EReal)) e' = ((∑ e', f e' : ℝ) : EReal) := by
    rw [Finset.sum_congr rfl fun e' _ => hfe e']
    exact coe_sum_real _ _
  have hpos : 0 < ∑ e', f e' := Finset.sum_pos (fun e' _ => hf e') ⟨0, Finset.mem_univ _⟩
  refine ⟨f e * (∑ e', f e')⁻¹, mul_nonneg (hf e).le (inv_nonneg.2 hpos.le), ?_⟩
  unfold probR Ideal.div
  rw [hsum, hfe, if_neg (by exact_mod_cast hpos.ne'), ← EReal.coe_inv, ← EReal.coe_mul]

/-- The gate of real scores is a real number, not negative. -/
theorem gateR_real (s : Fin 32 → ℝ) (w : BitVec 32) : ∃ r : ℝ, 0 ≤ r ∧ gateR (fun e => (s e : EReal)) w = r := by
  unfold gateR
  split
  · exact probR_real s _
  · exact ⟨0, le_refl _, rfl⟩

/-- Scores of finite tokens by finite weights are real. -/
theorem score_real (X : Fin 256 → EReal) (R : Fin 256 → Fin 32 → EReal) (hX : ∀ d, ∃ r : ℝ, X d = r) (hR : ∀ d e, ∃ r : ℝ, R d e = r) :
    ∃ s : Fin 32 → ℝ, ∀ e, ∑ d, X d * R d e = s e := by
  choose x hx using hX
  choose r hr using hR
  refine ⟨fun e => ∑ d, x d * r d e, fun e => ?_⟩
  rw [Finset.sum_congr rfl fun d _ => by rw [hx d, hr d e, ← EReal.coe_mul]]
  exact coe_sum_real _ _

/-- The probabilities masked to the named expert and summed are the gate. -/
theorem masked_gate (s : Fin 32 → EReal) (w : BitVec 32) :
    ∑ e : Fin 32, Scalar.select (IntOp.cmpi CmpIPredicate.eq (BitVec.ofNat 32 e.val) w) (probR s e) 0 = gateR s w := by
  have hsel : ∀ e : Fin 32, Scalar.select (IntOp.cmpi CmpIPredicate.eq (BitVec.ofNat 32 e.val) w) (probR s e) 0 = if e.val = w.toNat then probR s e else 0 := by
    intro e
    have he : (BitVec.ofNat 32 e.val = w) ↔ e.val = w.toNat := by
      rw [← BitVec.toNat_inj, BitVec.toNat_ofNat, Nat.mod_eq_of_lt (by omega)]
    by_cases h : e.val = w.toNat
    · rw [if_pos h]
      have := he.2 h
      simp [IntOp.cmpi, this, Scalar.select]
    · rw [if_neg h]
      have hb : (BitVec.ofNat 32 e.val == w) = false := by
        rw [beq_eq_false_iff_ne]; exact fun k => h (he.1 k)
      simp [IntOp.cmpi, hb, Scalar.select]
  rw [Finset.sum_congr rfl fun e _ => hsel e]
  unfold gateR
  split
  case isTrue h =>
    rw [Finset.sum_eq_single (⟨w.toNat, h⟩ : Fin 32)]
    · rw [if_pos rfl]
    · intro b _ hb
      rw [if_neg fun k => hb (Fin.ext k)]
    · exact fun k => absurd (Finset.mem_univ _) k
  case isFalse h =>
    refine Finset.sum_eq_zero fun e _ => if_neg ?_
    omega

/-- Eight devices of four experts are 32 experts. -/
theorem sum_experts (f : Fin 32 → EReal) : ∑ s : Fin 8, ∑ e : Fin 4, f ⟨4 * s.val + e.val, by omega⟩ = ∑ n, f n := by
  rw [← Equiv.sum_comp (finProdFinEquiv : Fin 8 × Fin 4 ≃ Fin (8 * 4)) f, Fintype.sum_prod_type]
  refine Finset.sum_congr rfl fun s _ => Finset.sum_congr rfl fun e _ => congrArg f (Fin.ext ?_)
  show 4 * s.val + e.val = e.val + 4 * s.val
  omega

/-- Tokens scaled expert by expert and multiplied into that expert's weights, summed over all experts: the gate times the token's product with
    the weights of the expert it names. -/
theorem pick (X : Fin 256 → EReal) (w : BitVec 32) (G : EReal) (V : Fin 32 → Fin 256 → EReal) (hG : 0 ≤ G) (hG' : G ≠ ⊤) :
    ∑ s : Fin 8, ∑ e : Fin 4, ∑ d : Fin 256, X d * (if w = BitVec.ofNat 32 (4 * s.val + e.val) then G else 0) * V ⟨4 * s.val + e.val, by omega⟩ d
      = if h : w.toNat < 32 then G * ∑ d, X d * V ⟨w.toNat, h⟩ d else 0 := by
  refine (sum_experts (fun n => ∑ d : Fin 256, X d * (if w = BitVec.ofNat 32 n.val then G else 0) * V n d)).trans ?_
  have hw : ∀ n : Fin 32, w = BitVec.ofNat 32 n.val ↔ w.toNat = n.val := fun n => by
    rw [← BitVec.toNat_inj, BitVec.toNat_ofNat, Nat.mod_eq_of_lt (by omega)]
  split
  case isTrue h =>
    rw [Finset.sum_eq_single (⟨w.toNat, h⟩ : Fin 32)]
    · have hd : ∀ u : Finset (Fin 256), ∑ d ∈ u, X d * G * V ⟨w.toNat, h⟩ d = G * ∑ d ∈ u, X d * V ⟨w.toNat, h⟩ d := by
        intro u
        induction u using Finset.induction_on with
        | empty => simp
        | insert a u ha ih => rw [Finset.sum_insert ha, Finset.sum_insert ha, EReal.left_distrib_of_nonneg_of_ne_top hG hG', ih, mul_comm (X a) G, mul_assoc]
      rw [← hd]
      exact Finset.sum_congr rfl fun d _ => by rw [if_pos ((hw _).2 rfl)]
    · intro b _ hb
      refine Finset.sum_eq_zero fun d _ => ?_
      rw [if_neg fun k => hb (Fin.ext ((hw b).1 k).symm), mul_zero, zero_mul]
    · exact fun k => absurd (Finset.mem_univ _) k
  case isFalse h =>
    refine Finset.sum_eq_zero fun n _ => Finset.sum_eq_zero fun d _ => ?_
    rw [if_neg fun k => h (by rw [(hw n).1 k]; exact n.isLt), mul_zero, zero_mul]

end Cert.Moe

end
-- ==== Proof.Value.Gate.lean ====
/-
The kernel's shared product and gate, read at one token.
-/
module

public import proofs.«01_k».proof.Proof.Value.Steps
public import proofs.«01_k».proof.Proof.Value.Rows

@[expose] public section

noncomputable section

namespace Cert.Moe

open Cert.KernelIdeal Cert.KernelIdeal.Gen Cert.IdealTalk
open Idealize.ShloMosaic

section
variable (x : FVec Ideal S512x256 .bf16) (rw : FVec Ideal S256x32 .bf16) (id : IVec S512x1 32) (sw : FVec Ideal S256x512 .bf16)

/-- The tokens as the products take them are the tokens. -/
theorem pay2_at (t : Fin 512) (d : Fin 256) : k0_pay2 (F := Ideal) x (ix2 t d) = x (ix2 t d) := by
  unfold k0_pay2
  pointwise
/-- The expert numbers as the gates take them are the expert numbers. -/
theorem pay3_at (t : Fin 512) : k0_pay3 (F := Ideal) id (ix2 t 0) = id (ix2 t 0) := by
  unfold k0_pay3
  pointwise
/-- The shared product, at one token and column. -/
theorem pay5_at (t h : Fin 512) : k0_pay5 (F := Ideal) x sw (ix2 t h) = ∑ d : Fin 256, (x (ix2 t d) : EReal) * (sw (ix2 d h) : EReal) := by
  unfold k0_pay5 k0_pay2
  pointwise
/-- The kernel's gate of a token is the probability of the expert it names, and 0 if it names none. -/
theorem pay4_at (t : Fin 512) : k0_pay4 (F := Ideal) x rw id (ix2 t 0)
    = gateR (fun e => ∑ d : Fin 256, (x (ix2 t d) : EReal) * (rw (ix2 d e) : EReal)) (id (ix2 t 0)) := by
  refine Eq.trans ?_ (masked_gate _ _)
  unfold k0_pay4 k0_pay2 k0_pay3
  pointwise
  rfl
end

end Cert.Moe

end
-- ==== Proof.Value.Read.lean ====
/-
What the run leaves, array by array: each window is a whole array, so what is staged is the argument and what is
written back is the result.
-/
module

public import proofs.«01_k».proof.Proof.Ideal.Launch

@[expose] public section

noncomputable section

namespace Cert.Moe

open Cert.KernelIdeal Cert.KernelIdeal.Gen Cert.IdealTalk
open Idealize.ShloMosaic
open Idealize.ShloMosaic.TcCoe

variable {F : FTy → Type} [FloatOps F]
variable (m : (ℓ : Loc nD τ sig) → Buf (Elt F) ℓ) (ρ : Dev nD → PrngReg) (c : Dev nD)

/-- The tokens staged are the token array, -/
theorem xS_eq : xS m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
/-- the router weights the router's, -/
theorem rwS_eq : rwS m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
/-- the named experts the names, -/
theorem idS_eq : idS m ρ c = m ((c : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _
/-- the expert weights the experts', -/
theorem ewS_eq : ewS m ρ c = m ((c : Thread nD τ).loc main_arg3) :=
  Memref.read_access_unit_zero (Elt F) main_arg3 (off := fun a => (win0_3.index (0 : Fin 1)) a * main_arg3.ty.shape.size a)
    (funext fun a => by fin_cases a <;> decide) (fun a => by fin_cases a <;> decide) _
/-- and the shared weights the shared ones. -/
theorem swS_eq : swS m ρ c = m ((c : Thread nD τ).loc main_arg4) :=
  Memref.read_access_unit_zero (Elt F) main_arg4 (off := fun a => (win0_4.index (0 : Fin 1)) a * main_arg4.ty.shape.size a)
    (funext fun a => by fin_cases a <;> decide) (fun a => by fin_cases a <;> decide) _

/-- The result array ends holding the result of the body. -/
theorem final_eq : finalA m ρ c (5 : Fin 6) = resS m ρ c := by
  have h : (win0_5.blk (0 : Fin 1)).view.read (Elt F) (finalA m ρ c (5 : Fin 6)) = resS m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  refine Eq.trans ?_ h
  exact (Memref.read_access_unit_zero (Elt F) main_v1 (off := fun a => (win0_5.index (0 : Fin 1)) a * main_v1.ty.shape.size a)
    (funext fun a => by fin_cases a <;> decide) (fun a => by fin_cases a <;> decide) _).symm

/-- What the result of the body is, of the arguments alone. -/
theorem res_args : finalA m ρ c (5 : Fin 6)
    = outAt (fun s : Dev nD => m ((s : Thread nD τ).loc main_arg3)) c (m ((c : Thread nD τ).loc main_arg0)) (m ((c : Thread nD τ).loc main_arg1))
        (m ((c : Thread nD τ).loc main_arg2)) (m ((c : Thread nD τ).loc main_arg4)) := by
  rw [final_eq]
  unfold resS
  rw [xS_eq, rwS_eq, idS_eq, swS_eq, show ewS m ρ = fun s : Dev nD => m ((s : Thread nD τ).loc main_arg3) from funext fun s => ewS_eq m ρ s]

end Cert.Moe

end
-- ==== Proof.Value.Ref.lean ====
/-
The reference's result, read at one token and one column.
-/
module

public import proofs.«01_k».proof.Proof.Gen.ReferenceIdeal.Run
public import proofs.«01_k».proof.Proof.Value.Rows

@[expose] public section

noncomputable section

namespace Cert.Moe.Ref

open Cert.ReferenceIdeal Cert.ReferenceIdeal.Gen Cert.ReferenceIdeal.Value
open Idealize.ShloMosaic

section
variable (x : FVec Ideal S4096x256 .bf16) (rw : FVec Ideal S256x32 .bf16) (idx : IVec S4096x1 32) (ew : FVec Ideal S32x256x512 .bf16) (sw : FVec Ideal S256x512 .bf16)

/-- The scores. -/
def scores : FVec Ideal S4096x32 .f32 := Host.dotGeneral dot_S4096x256_S256x32_S4096x32_1_0_0_1_n_n none (extf .f32 x bitsLt_bf16_f32) (extf .f32 rw bitsLt_bf16_f32)
/-- The exponentials of the scores less their greatest. -/
def expos : FVec Ideal S4096x32 .f32 := Host.exp (subf (scores x rw) (broadcastInDim S4096x32 ![0, 1] bcast_S4096x1_S4096x32_0_1 (broadcastInDim S4096x1 ![0] bcast_S4096_S4096x1_0
  (Host.reduce FloatOps.maximumf (scores x rw) (constant S_ .f32 0xFF800000#32) reducesTo_S4096x32_S4096_d1 h_S_))))
/-- The probabilities. -/
def probs : FVec Ideal S4096x32 .f32 := Host.divf (expos x rw) (broadcastInDim S4096x32 ![0, 1] bcast_S4096x1_S4096x32_0_1 (broadcastInDim S4096x1 ![0] bcast_S4096_S4096x1_0
  (Host.reduceAdd (expos x rw) (constant S_ .f32 0x00000000#32) reducesTo_S4096x32_S4096_d1 h_S_)))
/-- The expert each token names. -/
def word : IVec S4096 32 := shapeCast _ idx shapeCasts_S4096x1_S4096
/-- Whether it is one of the 32. -/
def named : IVec S4096 1 := andi (cmpi .sge (word idx) (broadcastInDim S4096 ![] bcast_S_S4096 (constantI S_ 32 0#32))) (cmpi .slt (word idx) (broadcastInDim S4096 ![] bcast_S_S4096 (constantI S_ 32 32#32)))
/-- The expert brought into range. -/
def clipped : IVec S4096 32 := minsi (broadcastInDim S4096 ![] bcast_S_S4096 (id (constantI S_ 32 31#32))) (maxsi (broadcastInDim S4096 ![] bcast_S_S4096 (id (constantI S_ 32 0#32))) (word idx))
/-- The same as an index: a negative one counts from the end. -/
def wrapped : IVec S4096 32 := select (cmpi .slt (clipped idx) (broadcastInDim S4096 ![] bcast_S_S4096 (constantI S_ 32 0#32))) (addi (clipped idx) (broadcastInDim S4096 ![] bcast_S_S4096 (constantI S_ 32 32#32))) (clipped idx)
/-- The tokens in order, as indices. -/
def rows : IVec S4096 32 := select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)
/-- The token and its expert side by side. -/
def both : IVec S4096x2 32 := concatenate S4096x2 1 [⟨S4096x1, broadcastInDim S4096x1 ![0] bcast_S4096_S4096x1_0 rows⟩, ⟨S4096x1, broadcastInDim S4096x1 ![0] bcast_S4096_S4096x1_0 (wrapped idx)⟩] concatenates_S4096x1_S4096x1_S4096x2_d1
/-- The gates. -/
def gates : FVec Ideal S4096 .f32 := select (named idx) (Host.gather gather_S4096x32_S4096x2_S4096_n_01_n_n_01_1_11 (probs x rw) (both idx)) (broadcastInDim S4096 ![] bcast_S_S4096 (id (constant S_ .f32 0x00000000#32)))
/-- The weights each token's expert has. -/
def chosen : FVec Ideal S4096x256x512 .f32 := Host.gather gather_S32x256x512_S4096x1_S4096x256x512_12_0_n_n_0_1_1256512 (extf .f32 ew bitsLt_bf16_f32) (broadcastInDim S4096x1 ![0] bcast_S4096_S4096x1_0 (wrapped idx))
/-- The result. -/
def result : FVec Ideal S4096x512 .f32 := addf (Host.dotGeneral dot_S4096x256_S256x512_S4096x512_1_0_0_1_n_n none (extf .f32 x bitsLt_bf16_f32) (extf .f32 sw bitsLt_bf16_f32))
  (mulf (broadcastInDim S4096x512 ![0, 1] bcast_S4096x1_S4096x512_0_1 (broadcastInDim S4096x1 ![0] bcast_S4096_S4096x1_0 (gates x rw idx)))
    (Host.dotGeneral dot_S4096x256_S4096x256x512_S4096x512_1_1_n_2_0_0 none (extf .f32 x bitsLt_bf16_f32) (chosen idx ew)))
end

/-- The generated term is this one. -/
theorem res_eq (m : (ℓ : Loc nD τ sig) → Buf (Elt Ideal) ℓ) (c : Dev nD) :
    res_main_v49 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

section
variable (x : FVec Ideal S4096x256 .bf16) (rw : FVec Ideal S256x32 .bf16) (idx : IVec S4096x1 32) (ew : FVec Ideal S32x256x512 .bf16) (sw : FVec Ideal S256x512 .bf16)

/-- The scores, at one token and expert. -/
theorem scores_at (t : Fin 4096) (e : Fin 32) : scores x rw (ix2 t e) = ∑ d : Fin 256, (x (ix2 t d) : EReal) * (rw (ix2 d e) : EReal) := by
  unfold scores
  pointwise
/-- The exponentials, at one token and expert. -/
theorem expos_at (t : Fin 4096) (e : Fin 32) : expos x rw (ix2 t e) = expR (fun e => scores x rw (ix2 t e)) e := by
  unfold expos
  pointwise
  rfl
/-- The probabilities, at one token and expert. -/
theorem probs_at (t : Fin 4096) (e : Fin 32) : probs x rw (ix2 t e) = probR (fun e => scores x rw (ix2 t e)) e := by
  unfold probs
  pointwise
  unfold probR
  rw [expos_at, Finset.sum_congr rfl fun e' _ => expos_at x rw t e']

/-- A word that is not an expert's number fails the two signed comparisons. -/
theorem named_out (w : BitVec 32) (h : ¬ w.toNat < 32) : IntOp.andi (IntOp.cmpi CmpIPredicate.sge w 0#32) (IntOp.cmpi CmpIPredicate.slt w 32#32) = 0#1 := by
  by_cases h1 : w.toNat < 2 ^ 31
  · have : BitVec.slt w 32#32 = false := by
      rw [BitVec.slt_eq_decide, decide_eq_false_iff_not, BitVec.toInt_eq_toNat_of_lt (by omega), BitVec.toInt_eq_toNat_of_lt (by decide)]
      show ¬ ((w.toNat : ℤ) < 32)
      omega
    simp [IntOp.andi, IntOp.cmpi, this]
  · have : BitVec.sle 0#32 w = false := by
      rw [BitVec.sle_eq_decide, decide_eq_false_iff_not, BitVec.toInt_eq_toNat_cond w, if_neg (by omega)]
      have := w.isLt
      show ¬ ((0 : ℤ) ≤ (w.toNat : ℤ) - ((2 ^ 32 : ℕ) : ℤ))
      push_cast
      omega
    simp [IntOp.andi, IntOp.cmpi, this]
/-- An expert's number passes them. -/
theorem named_in : ∀ n : Fin 32, IntOp.andi (IntOp.cmpi CmpIPredicate.sge (BitVec.ofNat 32 n.val) 0#32) (IntOp.cmpi CmpIPredicate.slt (BitVec.ofNat 32 n.val) 32#32) = 1#1 := by
  decide
/-- Clipping an expert's number, and wrapping it if negative, leaves it. -/
theorem clip_in : ∀ n : Fin 32, Scalar.select
      (IntOp.cmpi CmpIPredicate.slt (IntOp.minsi 31#32 (IntOp.maxsi 0#32 (BitVec.ofNat 32 n.val))) 0#32)
      (IntOp.addi (IntOp.minsi 31#32 (IntOp.maxsi 0#32 (BitVec.ofNat 32 n.val))) 32#32)
      (IntOp.minsi 31#32 (IntOp.maxsi 0#32 (BitVec.ofNat 32 n.val))) = BitVec.ofNat 32 n.val := by
  decide

/-- Whether a token names an expert. -/
theorem named_at (t : Fin 4096) : named idx (ix1 t) = IntOp.andi (IntOp.cmpi CmpIPredicate.sge (idx (ix2 t 0)) 0#32) (IntOp.cmpi CmpIPredicate.slt (idx (ix2 t 0)) 32#32) := by
  unfold named word
  pointwise
/-- Where a token names expert `n`, the index of the gathers is `n`. -/
theorem wrapped_at (t : Fin 4096) (n : Fin 32) (hn : idx (ix2 t 0) = BitVec.ofNat 32 n.val) : wrapped idx (ix1 t) = BitVec.ofNat 32 n.val := by
  unfold wrapped clipped word
  pointwise
  rw [hn]
  exact clip_in n
/-- The row index of token `t` is `t`. -/
theorem rows_at (t : Fin 4096) : rows (ix1 t) = BitVec.ofNat 32 t.val := by
  unfold rows
  pointwise
  have : BitVec.slt (BitVec.ofNat 32 t.val) 0#32 = false := by
    rw [BitVec.slt_eq_decide, decide_eq_false_iff_not, BitVec.toInt_eq_toNat_of_lt (by rw [BitVec.toNat_ofNat]; omega)]
    show ¬ (((BitVec.ofNat 32 t.val).toNat : ℤ) < 0)
    omega
  simp [IntOp.cmpi, this, Scalar.select]
/-- The first index of a probability is the token's row, -/
theorem both_at0 (t : Fin 4096) : both idx (ix2 t 0) = rows (ix1 t) := by
  unfold both
  pointwise
/-- the second the expert it names. -/
theorem both_at1 (t : Fin 4096) : both idx (ix2 t 1) = wrapped idx (ix1 t) := by
  unfold both
  pointwise

/-- A word below half the range, read signed and held below a bound it is already below, is itself. -/
theorem held (n b : ℕ) (h : n < b) (hb : b < 2 ^ 31) : min (BitVec.ofNat 32 n).toInt.toNat (b - 1) = n := by
  rw [BitVec.toInt_eq_toNat_of_lt (by rw [BitVec.toNat_ofNat]; omega), BitVec.toNat_ofNat]
  have : n % 2 ^ 32 = n := Nat.mod_eq_of_lt (by omega)
  rw [this]
  show min n (b - 1) = n
  omega

/-- Gathering by a row and a column within bounds reads that entry. -/
theorem gather2 (P : FVec Ideal S4096x32 .f32) (I : IVec S4096x2 32) (t : Fin 4096) (a : Fin 4096) (b : Fin 32) (ha : I (ix2 t 0) = BitVec.ofNat 32 a.val) (hb : I (ix2 t 1) = BitVec.ofNat 32 b.val) :
    Host.gather gather_S4096x32_S4096x2_S4096_n_01_n_n_01_1_11 P I (ix1 t) = P (ix2 a b) := by
  unfold Host.gather
  refine congrArg P (funext fun k => Fin.ext ?_)
  revert k
  intro (k : Fin 2)
  fin_cases k
  · have hi : ∀ i : S4096x2.Idx, i = ix2 t 0 → min (I i).toInt.toNat (4096 - 1) + 0 + 0 = a.val := by
      rintro i rfl
      rw [ha]
      exact held _ _ a.isLt (by omega)
    refine hi _ (funext fun k => ?_)
    revert k
    intro (k : Fin 2)
    fin_cases k <;> rfl
  · have hi : ∀ i : S4096x2.Idx, i = ix2 t 1 → min (I i).toInt.toNat (32 - 1) + 0 + 0 = b.val := by
      rintro i rfl
      rw [hb]
      exact held _ _ b.isLt (by omega)
    refine hi _ (funext fun k => ?_)
    revert k
    intro (k : Fin 2)
    fin_cases k <;> rfl

/-- Gathering by an expert's number reads that expert's weights. -/
theorem gather3 (P : FVec Ideal S32x256x512 .f32) (I : IVec S4096x1 32) (t : Fin 4096) (d : Fin 256) (h : Fin 512) (a : Fin 32) (ha : I (ix2 t 0) = BitVec.ofNat 32 a.val) :
    Host.gather gather_S32x256x512_S4096x1_S4096x256x512_12_0_n_n_0_1_1256512 P I (ix3 t d h) = P (ix3 a d h) := by
  unfold Host.gather
  refine congrArg P (funext fun k => Fin.ext ?_)
  revert k
  intro (k : Fin 3)
  fin_cases k
  · have hi : ∀ i : S4096x1.Idx, i = ix2 t 0 → min (I i).toInt.toNat (32 - 1) + 0 + 0 = a.val := by
      rintro i rfl
      rw [ha]
      exact held _ _ a.isLt (by omega)
    refine hi _ (funext fun k => ?_)
    revert k
    intro (k : Fin 2)
    fin_cases k <;> rfl
  · show 0 + 0 + d.val = d.val
    omega
  · show 0 + 0 + h.val = h.val
    omega

/-- The reference's gate of a token is the probability of the expert it names, and 0 if it names none. -/
theorem gates_at (t : Fin 4096) : gates x rw idx (ix1 t) = gateR (fun e => scores x rw (ix2 t e)) (idx (ix2 t 0)) := by
  unfold gates
  pointwise
  rw [named_at]
  unfold gateR
  split
  case isTrue hw =>
    obtain ⟨n, hn⟩ : ∃ n : Fin 32, idx (ix2 t 0) = BitVec.ofNat 32 n.val := ⟨⟨_, hw⟩, by simp⟩
    have e : (⟨(idx (ix2 t 0)).toNat, hw⟩ : Fin 32) = n := Fin.ext (by
      show (idx (ix2 t 0)).toNat = n.val
      rw [hn, BitVec.toNat_ofNat]; omega)
    rw [e, hn, named_in n, gather2 _ _ t t n ((both_at0 idx t).trans (rows_at t)) ((both_at1 idx t).trans (wrapped_at idx t n hn)), probs_at]
    rfl
  case isFalse hw =>
    rw [named_out _ hw]
    show Ideal.ofBits FTy.f32 0#32 = (0 : EReal)
    simp [Ideal.ofBits, Ideal.ieee]

/-- The reference at one token and column: the shared product, and where the token names an expert its gate times its product with that expert's weights. -/
theorem result_at (t : Fin 4096) (h : Fin 512) : result x rw idx ew sw (ix2 t h)
    = (∑ d : Fin 256, (x (ix2 t d) : EReal) * (sw (ix2 d h) : EReal)) + (if hw : (idx (ix2 t 0)).toNat < 32 then
        gateR (fun e => scores x rw (ix2 t e)) (idx (ix2 t 0)) * ∑ d : Fin 256, (x (ix2 t d) : EReal) * (ew (ix3 ⟨(idx (ix2 t 0)).toNat, hw⟩ d h) : EReal) else 0) := by
  unfold result
  pointwise
  refine congrArg (_ + ·) ?_
  rw [gates_at]
  split
  case isTrue hw =>
    refine congrArg (_ * ·) (Finset.sum_congr rfl fun d _ => congrArg (_ * ·) ?_)
    refine (gather3 _ _ t d h ⟨_, hw⟩ ?_).trans ?_
    · pointwise
      exact wrapped_at idx t ⟨_, hw⟩ (by simp)
    · pointwise
  case isFalse hw =>
    unfold gateR
    rw [dif_neg hw, zero_mul]
end

end Cert.Moe.Ref

end
-- ==== Proof.Value.Whole.lean ====
/-
The kernel's result is the reference's: what each of the eight devices ends with is its block of rows of the one value
the reference ends with.
-/
module

public import proofs.«01_k».proof.Defs
public import proofs.«01_k».proof.Proof.Value.Finite
public import proofs.«01_k».proof.Proof.Value.Gate
public import proofs.«01_k».proof.Proof.Value.Read
public import proofs.«01_k».proof.Proof.Value.Ref
public import Idealize.ShloMosaic.Lib.LayoutAt

@[expose] public section

noncomputable section

namespace Cert.Moe

open Idealize.ShloMosaic Idealize.SL.Sem

section
open Cert.KernelIdeal Cert.KernelIdeal.Gen Cert.IdealTalk
variable (W : Dev nD → FVec Ideal S4x256x512 .bf16) (c : Dev nD) (x : FVec Ideal S512x256 .bf16) (rw : FVec Ideal S256x32 .bf16) (id : IVec S512x1 32) (sw : FVec Ideal S256x512 .bf16)
  (V : Fin 32 → Fin 256 → Fin 512 → EReal)

/-- The kernel at one token and column: the shared product, and where the token names an expert its gate times its
    product with that expert's weights, wherever the mesh holds them. -/
theorem kernel_at (hW : ∀ (s : Dev nD) (e : Fin 4) (d : Fin 256) (h : Fin 512), W s (ix3 e d h) = V ⟨4 * s.val + e.val, by have : s.val < 8 := s.isLt; omega⟩ d h)
    (hx : ∀ i, ∃ r : ℝ, (x i : EReal) = r) (hr : ∀ i, ∃ r : ℝ, (rw i : EReal) = r) (t h : Fin 512) :
    (outAt (F := Ideal) W c x rw id sw (ix2 t h) : EReal) = (∑ d : Fin 256, (x (ix2 t d) : EReal) * (sw (ix2 d h) : EReal)) + (if hw : (id (ix2 t 0)).toNat < 32 then
        gateR (fun e => ∑ d : Fin 256, (x (ix2 t d) : EReal) * (rw (ix2 d e) : EReal)) (id (ix2 t 0)) * ∑ d : Fin 256, (x (ix2 t d) : EReal) * V ⟨_, hw⟩ d h else 0) := by
  rw [outAt_at, pay5_at]
  refine congrArg (_ + ·) ?_
  obtain ⟨s, hs⟩ := score_real (fun d => x (ix2 t d)) (fun d e => rw (ix2 d e)) (fun d => hx _) (fun d e => hr _)
  have hS : (fun e => ∑ d : Fin 256, (x (ix2 t d) : EReal) * (rw (ix2 d e) : EReal)) = fun e => (s e : EReal) := funext hs
  have hG := pay4_at x rw id t
  obtain ⟨r, hr0, hr1⟩ := gateR_real s (id (ix2 t 0))
  rw [← hS] at hr1
  refine Eq.trans ?_ (pick (fun d => x (ix2 t d)) (id (ix2 t 0)) (gateR (fun e => ∑ d : Fin 256, (x (ix2 t d) : EReal) * (rw (ix2 d e) : EReal)) (id (ix2 t 0)))
    (fun n d => V n d h) (by rw [hr1]; exact_mod_cast hr0) (by rw [hr1]; exact EReal.coe_ne_top r))
  refine Finset.sum_congr rfl fun s _ => Finset.sum_congr rfl fun e _ => ?_
  unfold given share
  rw [hG, pay3_at]
  refine Finset.sum_congr rfl fun d _ => ?_
  rw [pay2_at]
  exact congrArg (_ * ·) (hW s e d h)
end

section
open Cert.KernelIdeal Cert.IdealTalk

/-- Row `t` of a device's block, among all rows. -/
theorem row_word (c : Dev nD) (t : Fin 512) : c.val * 512 + t.val = 512 * c.val + t.val := by omega

/-- The kernel's result on a device is the device's block of the reference's result. -/
theorem block_at (X : Cert.ReferenceIdeal.S4096x256.Idx → EReal) (R : FVec Ideal S256x32 .bf16) (I : IVec Cert.ReferenceIdeal.S4096x1 32)
    (E : Cert.ReferenceIdeal.S32x256x512.Idx → EReal) (S : FVec Ideal S256x512 .bf16) (c : Dev nD)
    (hx : ∀ i : S512x256.Idx, ∃ r : ℝ, Layout.block (α := EReal) ⟨2, ![512, 256]⟩ ⟨2, ![4096, 256]⟩ 0 8 c X (by decide) i = r) (hr : ∀ i, ∃ r : ℝ, (R i : EReal) = r) :
    outAt (F := Ideal) (fun s => Layout.block ⟨3, ![4, 256, 512]⟩ ⟨3, ![32, 256, 512]⟩ 0 8 s E) c (Layout.block ⟨2, ![512, 256]⟩ ⟨2, ![4096, 256]⟩ 0 8 c X) R
        (Layout.block ⟨2, ![512, 1]⟩ ⟨2, ![4096, 1]⟩ 0 8 c I) S
      = Layout.block ⟨2, ![512, 512]⟩ ⟨2, ![4096, 512]⟩ 0 8 c (Ref.result X R I E S) := by
  funext i
  obtain ⟨t, h, rfl⟩ : ∃ (t h : Fin 512), i = (ix2 t h : S512x512.Idx) := ⟨i 0, i 1, funext fun k => by revert k; intro (k : Fin 2); fin_cases k <;> rfl⟩
  rw [kernel_at _ c _ R _ S (fun n d h => E (ix3 n d h)) (fun s e d h => ?_) hx hr t h]
  · have hc : c.val < 8 := c.isLt
    let T : Fin 4096 := ⟨512 * c.val + t.val, by omega⟩
    have hX : ∀ d : Fin 256, Layout.block (α := EReal) ⟨2, ![512, 256]⟩ ⟨2, ![4096, 256]⟩ 0 8 c X (by decide) (ix2 t d) = X (ix2 T d) := fun d =>
      congrArg X (funext fun k => Fin.ext (by revert k; intro (k : Fin 2); fin_cases k; exact row_word c t; rfl))
    have hI : Layout.block ⟨2, ![512, 1]⟩ ⟨2, ![4096, 1]⟩ 0 8 c I (by decide) (ix2 t 0) = I (ix2 T 0) :=
      congrArg I (funext fun k => Fin.ext (by revert k; intro (k : Fin 2); fin_cases k; exact row_word c t; rfl))
    have hO : Layout.block ⟨2, ![512, 512]⟩ ⟨2, ![4096, 512]⟩ 0 8 c (Ref.result X R I E S) (by decide) (ix2 t h) = Ref.result X R I E S (ix2 T h) :=
      congrArg (Ref.result X R I E S) (funext fun k => Fin.ext (by revert k; intro (k : Fin 2); fin_cases k; exact row_word c t; rfl))
    rw [hO, Ref.result_at]
    simp only [hX]
    rw [hI]
    simp only [Ref.scores_at]
  · exact congrArg E (funext fun k => Fin.ext (by
      revert k; intro (k : Fin 3); fin_cases k
      · show s.val * 4 + e.val = 4 * s.val + e.val
        omega
      · rfl
      · rfl))
end

/-- The kernel on eight devices gives the blocks of what the reference gives on one. -/
theorem algebraic : Cert.algebraic_KernelIdeal_ReferenceIdeal_pre_tokens_and_router_finite_KernelIdeal (hKernelIdeal := Cert.KernelIdeal.Gen.facts)
    (hReferenceIdeal := Cert.ReferenceIdeal.Gen.facts) (hPre_tokens_and_router_finite_KernelIdeal := pre_kernel) := by
  intro m g m' g' hpre hagree
  refine ⟨Cert.ReferenceIdeal.Value.res_main_v49 m' 0, ?_, ?_⟩
  · refine (θ_run _ _ _).mono (fun _ h c => ⟨(h.1 c).1.trans ?_, (h.1 c).2⟩) (Cert.IdealTalk.run_out m g)
    rw [res_args, Ref.res_eq]
    obtain ⟨hx, hr⟩ := pre_real _ _ _ _ _ (hpre c)
    obtain ⟨h0, h1, h2, h3, h4⟩ := hagree c
    have hE := funext fun s => (hagree s).2.2.2.1
    rw [h0] at hx
    rw [h1] at hr
    rw [h0, h1, h2, h4]
    refine Eq.trans ?_ (block_at _ _ _ _ _ c hx hr)
    exact congrArg (fun W => Cert.IdealTalk.outAt (F := Ideal) W c _ _ _ _) hE
  · exact (θ_run _ _ _).mono (fun _ h => h 0) (Cert.ReferenceIdeal.Value.run m' g')

end Cert.Moe

end
-- ==== Proof.lean ====
/-
The proof of the claims: the kernel ends on all eight devices with its arguments as they were and every counter at zero,
read word by word and read over the reals, and so does the reference; and over the reals the kernel leaves on each device
its block of the rows of what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ideal.Launch
public import proofs.«01_k».proof.Proof.Word.Launch
public import proofs.«01_k».proof.Proof.Value.Whole

@[expose] public section

noncomputable section

namespace Cert.Proof

open Idealize.ShloMosaic Idealize.SL.Sem

/-- The kernel, word by word. -/
theorem kernel_frame : Cert.quiescent_Kernel (hKernel := Cert.Kernel.Gen.facts) :=
  fun m g _ => (θ_run _ _ _).mono (fun _ h => ⟨fun c => (h.1 c).2, h.2⟩) (Cert.WordTalk.run_out m g)

/-- The kernel over the reals. -/
theorem ideal_frame : Cert.quiescent_KernelIdeal (hKernelIdeal := Cert.KernelIdeal.Gen.facts) :=
  fun m g _ => (θ_run _ _ _).mono (fun _ h => ⟨fun c => (h.1 c).2, h.2⟩) (Cert.IdealTalk.run_out m g)

/-- The reference over the reals. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩) (Cert.ReferenceIdeal.Value.run m g)

/-- The kernel over the reals, where the precondition holds. -/
theorem ideal_frame_pre : Cert.quiescent_KernelIdeal_pre_tokens_and_router_finite_KernelIdeal (hKernelIdeal := Cert.KernelIdeal.Gen.facts)
    (hPre_tokens_and_router_finite_KernelIdeal := Cert.Moe.pre_kernel) :=
  fun m g _ => ideal_frame m g trivial

/-- The reference over the reals, where the precondition holds. -/
theorem reference_frame_pre : Cert.quiescent_ReferenceIdeal_pre_tokens_and_router_finite_ReferenceIdeal (hReferenceIdeal := Cert.ReferenceIdeal.Gen.facts)
    (hPre_tokens_and_router_finite_ReferenceIdeal := Cert.Moe.pre_reference) :=
  fun m g _ => reference_frame m g trivial

/-- All the claims. -/
theorem claim : Cert.Claim := ⟨Cert.Kernel.Gen.facts, Cert.KernelIdeal.Gen.facts, Cert.ReferenceIdeal.Gen.facts, Cert.Moe.pre_kernel, Cert.Moe.pre_reference,
  kernel_frame, ideal_frame, ideal_frame_pre, reference_frame, reference_frame_pre, trivial, Cert.Moe.algebraic⟩

end Cert.Proof

end
